-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S1 : Shape := ⟨1, ![1]⟩
abbrev S1x1 : Shape := ⟨2, ![1, 1]⟩
abbrev S4096x4096 : Shape := ⟨2, ![4096, 4096]⟩
abbrev S3 : Shape := ⟨1, ![3]⟩
abbrev S4 : Shape := ⟨1, ![4]⟩
abbrev S_ : Shape := ⟨0, ![]⟩
abbrev S512x1024 : Shape := ⟨2, ![512, 1024]⟩
abbrev S256x4096 : Shape := ⟨2, ![256, 4096]⟩
abbrev S64x4096 : Shape := ⟨2, ![64, 4096]⟩
abbrev S448x4096 : Shape := ⟨2, ![448, 4096]⟩

abbrev nBuf : Space → Nat
  | .hbm => 7
  | .vmem => 5
  | .smem => 1
  | _ => 0

abbrev bufTy : (tb : Table) → Fin (tcTables nBuf tb) → BufTy
  | .hbm, ⟨0, _⟩ => ⟨S512x4096, .fp8e4m3⟩
  | .hbm, ⟨1, _⟩ => ⟨S4096x1024, .fp8e4m3⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S1x1, .f32⟩
  | .hbm, ⟨6, _⟩ => ⟨S4096x1024, .f32⟩
  | .local _ .vmem, ⟨0, _⟩ => ⟨S512x4096, .fp8e4m3⟩
  | .local _ .vmem, ⟨1, _⟩ => ⟨S4096x1024, .fp8e4m3⟩
  | .local _ .vmem, ⟨2, _⟩ => ⟨S4096x1024, .f32⟩
  | .local _ .vmem, ⟨3, _⟩ => ⟨S4096x4096, .fp8e4m3⟩
  | .local _ .vmem, ⟨4, _⟩ => ⟨S4096x1024, .fp8e4m3⟩
  | .local _ .smem, ⟨0, _⟩ => ⟨S1x1, .f32⟩
  | _, _ => ⟨S512x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_2 : BitVec 32 := 4#32
  let v6 : BitVec 32 := Scalar.muli v3 c4_i32_2
  let c4_i32_0 : BitVec 32 := 4#32
  let v4 : BitVec 32 := Scalar.remsi v2 c4_i32_0
  let c1_i32_1 : BitVec 32 := 1#32
  let v5 : BitVec 32 := Scalar.subi v4 c1_i32_1
  let c4_i32_3 : BitVec 32 := 4#32
  let v7 : BitVec 32 := Scalar.addi v5 c4_i32_3
  let c4_i32_4 : BitVec 32 := 4#32
  let v8 : BitVec 32 := Scalar.remsi v7 c4_i32_4
  let v9 : BitVec 32 := Scalar.addi v6 v8
  let c1_i32_32 : BitVec 32 := 1#32
  let v44 : BitVec 32 := Scalar.muli v9 c1_i32_32
  let v45 : BitVec 32 := Scalar.addi c0_i32 v44
  v45.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_6 : BitVec 32 := 4#32
  let v11 : BitVec 32 := Scalar.muli v3 c4_i32_6
  let c4_i32_0 : BitVec 32 := 4#32
  let v4 : BitVec 32 := Scalar.remsi v2 c4_i32_0
  let c1_i32_5 : BitVec 32 := 1#32
  let v10 : BitVec 32 := Scalar.addi v4 c1_i32_5
  let c4_i32_7 : BitVec 32 := 4#32
  let v12 : BitVec 32 := Scalar.addi v10 c4_i32_7
  let c4_i32_8 : BitVec 32 := 4#32
  let v13 : BitVec 32 := Scalar.remsi v12 c4_i32_8
  let v14 : BitVec 32 := Scalar.addi v11 v13
  let c1_i32_34 : BitVec 32 := 1#32
  let v46 : BitVec 32 := Scalar.muli v14 c1_i32_34
  let v47 : BitVec 32 := Scalar.addi c0_i32_35 v46
  v47.toNat
def k0_dev3 (d0 : Dev nD) : Nat :=
  let c0_i32_38 : BitVec 32 := 0#32
  let c1_i32_12 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v20 : BitVec 32 := Scalar.subi c1_i32_12 v3
  let c4_i32_13 : BitVec 32 := 4#32
  let v21 : BitVec 32 := Scalar.muli v20 c4_i32_13
  let c4_i32_0 : BitVec 32 := 4#32
  let v4 : BitVec 32 := Scalar.remsi v2 c4_i32_0
  let c4_i32_14 : BitVec 32 := 4#32
  let v22 : BitVec 32 := Scalar.addi v4 c4_i32_14
  let c4_i32_15 : BitVec 32 := 4#32
  let v23 : BitVec 32 := Scalar.remsi v22 c4_i32_15
  let v24 : BitVec 32 := Scalar.addi v21 v23
  let c1_i32_37 : BitVec 32 := 1#32
  let v48 : BitVec 32 := Scalar.muli v24 c1_i32_37
  let v49 : BitVec 32 := Scalar.addi c0_i32_38 v48
  v49.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v53 : BitVec 32 := Scalar.muli v2 c512_i32
  let c0_i32_42 : BitVec 32 := 0#32
  let v54 : BitVec 32 := Scalar.addi v53 c0_i32_42
  let v55 : Index := Scalar.indexCast v54
  let c0_43 : Index := 0#32
  ![v55.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_44 : BitVec 32 := 512#32
  let v59 : BitVec 32 := Scalar.muli v2 c512_i32_44
  let c0_i32_45 : BitVec 32 := 0#32
  let v60 : BitVec 32 := Scalar.addi v59 c0_i32_45
  let c0_i32_50 : BitVec 32 := 0#32
  ![v60.toNat, 0]
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_6 : BitVec 32 := 4#32
  let v11 : BitVec 32 := Scalar.muli v3 c4_i32_6
  let c4_i32_0 : BitVec 32 := 4#32
  let v4 : BitVec 32 := Scalar.remsi v2 c4_i32_0
  let c1_i32_5 : BitVec 32 := 1#32
  let v10 : BitVec 32 := Scalar.addi v4 c1_i32_5
  let c4_i32_7 : BitVec 32 := 4#32
  let v12 : BitVec 32 := Scalar.addi v10 c4_i32_7
  let c4_i32_8 : BitVec 32 := 4#32
  let v13 : BitVec 32 := Scalar.remsi v12 c4_i32_8
  let v14 : BitVec 32 := Scalar.addi v11 v13
  let c1_i32_48 : BitVec 32 := 1#32
  let v61 : BitVec 32 := Scalar.muli v14 c1_i32_48
  let v62 : BitVec 32 := Scalar.addi c0_i32_49 v61
  v62.toNat
def k0_dev5 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_2 : BitVec 32 := 4#32
  let v6 : BitVec 32 := Scalar.muli v3 c4_i32_2
  let c4_i32_0 : BitVec 32 := 4#32
  let v4 : BitVec 32 := Scalar.remsi v2 c4_i32_0
  let c1_i32_1 : BitVec 32 := 1#32
  let v5 : BitVec 32 := Scalar.subi v4 c1_i32_1
  let c4_i32_3 : BitVec 32 := 4#32
  let v7 : BitVec 32 := Scalar.addi v5 c4_i32_3
  let c4_i32_4 : BitVec 32 := 4#32
  let v8 : BitVec 32 := Scalar.remsi v7 c4_i32_4
  let v9 : BitVec 32 := Scalar.addi v6 v8
  let c1_i32_56 : BitVec 32 := 1#32
  let v71 : BitVec 32 := Scalar.muli v9 c1_i32_56
  let v72 : BitVec 32 := Scalar.addi c0_i32_57 v71
  v72.toNat
def k0_dev6 (d0 : Dev nD) : Nat :=
  let c0_i32_65 : BitVec 32 := 0#32
  let c1_i32_12 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v20 : BitVec 32 := Scalar.subi c1_i32_12 v3
  let c4_i32_13 : BitVec 32 := 4#32
  let v21 : BitVec 32 := Scalar.muli v20 c4_i32_13
  let c4_i32_0 : BitVec 32 := 4#32
  let v4 : BitVec 32 := Scalar.remsi v2 c4_i32_0
  let c4_i32_14 : BitVec 32 := 4#32
  let v22 : BitVec 32 := Scalar.addi v4 c4_i32_14
  let c4_i32_15 : BitVec 32 := 4#32
  let v23 : BitVec 32 := Scalar.remsi v22 c4_i32_15
  let v24 : BitVec 32 := Scalar.addi v21 v23
  let c1_i32_64 : BitVec 32 := 1#32
  let v81 : BitVec 32 := Scalar.muli v24 c1_i32_64
  let v82 : BitVec 32 := Scalar.addi c0_i32_65 v81
  v82.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_77 : BitVec 32 := 512#32
  let v104 : BitVec 32 := Scalar.muli v2 c512_i32_77
  let c0_i32_78 : BitVec 32 := 0#32
  let v105 : BitVec 32 := Scalar.addi v104 c0_i32_78
  let v106 : Index := Scalar.indexCast v105
  let c0_79 : Index := 0#32
  ![v106.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_2 : BitVec 32 := 4#32
  let v6 : BitVec 32 := Scalar.muli v3 c4_i32_2
  let c4_i32_0 : BitVec 32 := 4#32
  let v4 : BitVec 32 := Scalar.remsi v2 c4_i32_0
  let c1_i32_1 : BitVec 32 := 1#32
  let v5 : BitVec 32 := Scalar.subi v4 c1_i32_1
  let c4_i32_3 : BitVec 32 := 4#32
  let v7 : BitVec 32 := Scalar.addi v5 c4_i32_3
  let c4_i32_4 : BitVec 32 := 4#32
  let v8 : BitVec 32 := Scalar.remsi v7 c4_i32_4
  let v9 : BitVec 32 := Scalar.addi v6 v8
  let c512_i32_86 : BitVec 32 := 512#32
  let v114 : BitVec 32 := Scalar.muli v9 c512_i32_86
  let c0_i32_87 : BitVec 32 := 0#32
  let v115 : BitVec 32 := Scalar.addi v114 c0_i32_87
  let c0_i32_92 : BitVec 32 := 0#32
  ![v115.toNat, 0]
def k0_dev7 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_6 : BitVec 32 := 4#32
  let v11 : BitVec 32 := Scalar.muli v3 c4_i32_6
  let c4_i32_0 : BitVec 32 := 4#32
  let v4 : BitVec 32 := Scalar.remsi v2 c4_i32_0
  let c1_i32_5 : BitVec 32 := 1#32
  let v10 : BitVec 32 := Scalar.addi v4 c1_i32_5
  let c4_i32_7 : BitVec 32 := 4#32
  let v12 : BitVec 32 := Scalar.addi v10 c4_i32_7
  let c4_i32_8 : BitVec 32 := 4#32
  let v13 : BitVec 32 := Scalar.remsi v12 c4_i32_8
  let v14 : BitVec 32 := Scalar.addi v11 v13
  let c1_i32_90 : BitVec 32 := 1#32
  let v116 : BitVec 32 := Scalar.muli v14 c1_i32_90
  let v117 : BitVec 32 := Scalar.addi c0_i32_91 v116
  v117.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_2 : BitVec 32 := 4#32
  let v6 : BitVec 32 := Scalar.muli v3 c4_i32_2
  let c4_i32_0 : BitVec 32 := 4#32
  let v4 : BitVec 32 := Scalar.remsi v2 c4_i32_0
  let c1_i32_1 : BitVec 32 := 1#32
  let v5 : BitVec 32 := Scalar.subi v4 c1_i32_1
  let c4_i32_3 : BitVec 32 := 4#32
  let v7 : BitVec 32 := Scalar.addi v5 c4_i32_3
  let c4_i32_4 : BitVec 32 := 4#32
  let v8 : BitVec 32 := Scalar.remsi v7 c4_i32_4
  let v9 : BitVec 32 := Scalar.addi v6 v8
  let c512_i32_94 : BitVec 32 := 512#32
  let v124 : BitVec 32 := Scalar.muli v9 c512_i32_94
  let c448_i32 : BitVec 32 := 448#32
  let v125 : BitVec 32 := Scalar.addi v124 c448_i32
  let c0_i32_99 : BitVec 32 := 0#32
  ![v125.toNat, 0]
def k0_dev8 (d0 : Dev nD) : Nat :=
  let c0_i32_98 : BitVec 32 := 0#32
  let c1_i32_12 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v20 : BitVec 32 := Scalar.subi c1_i32_12 v3
  let c4_i32_13 : BitVec 32 := 4#32
  let v21 : BitVec 32 := Scalar.muli v20 c4_i32_13
  let c4_i32_0 : BitVec 32 := 4#32
  let v4 : BitVec 32 := Scalar.remsi v2 c4_i32_0
  let c4_i32_14 : BitVec 32 := 4#32
  let v22 : BitVec 32 := Scalar.addi v4 c4_i32_14
  let c4_i32_15 : BitVec 32 := 4#32
  let v23 : BitVec 32 := Scalar.remsi v22 c4_i32_15
  let v24 : BitVec 32 := Scalar.addi v21 v23
  let c1_i32_97 : BitVec 32 := 1#32
  let v126 : BitVec 32 := Scalar.muli v24 c1_i32_97
  let v127 : BitVec 32 := Scalar.addi c0_i32_98 v126
  v127.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_6 : BitVec 32 := 4#32
  let v11 : BitVec 32 := Scalar.muli v3 c4_i32_6
  let c4_i32_0 : BitVec 32 := 4#32
  let v4 : BitVec 32 := Scalar.remsi v2 c4_i32_0
  let c1_i32_5 : BitVec 32 := 1#32
  let v10 : BitVec 32 := Scalar.addi v4 c1_i32_5
  let c4_i32_7 : BitVec 32 := 4#32
  let v12 : BitVec 32 := Scalar.addi v10 c4_i32_7
  let c4_i32_8 : BitVec 32 := 4#32
  let v13 : BitVec 32 := Scalar.remsi v12 c4_i32_8
  let v14 : BitVec 32 := Scalar.addi v11 v13
  let c512_i32_107 : BitVec 32 := 512#32
  let v140 : BitVec 32 := Scalar.muli v14 c512_i32_107
  let c256_i32 : BitVec 32 := 256#32
  let v141 : BitVec 32 := Scalar.addi v140 c256_i32
  let c0_i32_112 : BitVec 32 := 0#32
  ![v141.toNat, 0]
def k0_dev9 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_2 : BitVec 32 := 4#32
  let v6 : BitVec 32 := Scalar.muli v3 c4_i32_2
  let c4_i32_0 : BitVec 32 := 4#32
  let v4 : BitVec 32 := Scalar.remsi v2 c4_i32_0
  let c1_i32_1 : BitVec 32 := 1#32
  let v5 : BitVec 32 := Scalar.subi v4 c1_i32_1
  let c4_i32_3 : BitVec 32 := 4#32
  let v7 : BitVec 32 := Scalar.addi v5 c4_i32_3
  let c4_i32_4 : BitVec 32 := 4#32
  let v8 : BitVec 32 := Scalar.remsi v7 c4_i32_4
  let v9 : BitVec 32 := Scalar.addi v6 v8
  let c1_i32_110 : BitVec 32 := 1#32
  let v142 : BitVec 32 := Scalar.muli v9 c1_i32_110
  let v143 : BitVec 32 := Scalar.addi c0_i32_111 v142
  v143.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_6 : BitVec 32 := 4#32
  let v11 : BitVec 32 := Scalar.muli v3 c4_i32_6
  let c4_i32_0 : BitVec 32 := 4#32
  let v4 : BitVec 32 := Scalar.remsi v2 c4_i32_0
  let c1_i32_5 : BitVec 32 := 1#32
  let v10 : BitVec 32 := Scalar.addi v4 c1_i32_5
  let c4_i32_7 : BitVec 32 := 4#32
  let v12 : BitVec 32 := Scalar.addi v10 c4_i32_7
  let c4_i32_8 : BitVec 32 := 4#32
  let v13 : BitVec 32 := Scalar.remsi v12 c4_i32_8
  let v14 : BitVec 32 := Scalar.addi v11 v13
  let c512_i32_114 : BitVec 32 := 512#32
  let v150 : BitVec 32 := Scalar.muli v14 c512_i32_114
  let c0_i32_115 : BitVec 32 := 0#32
  let v151 : BitVec 32 := Scalar.addi v150 c0_i32_115
  let c0_i32_120 : BitVec 32 := 0#32
  ![v151.toNat, 0]
def k0_dev10 (d0 : Dev nD) : Nat :=
  let c0_i32_119 : BitVec 32 := 0#32
  let c1_i32_12 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v20 : BitVec 32 := Scalar.subi c1_i32_12 v3
  let c4_i32_13 : BitVec 32 := 4#32
  let v21 : BitVec 32 := Scalar.muli v20 c4_i32_13
  let c4_i32_0 : BitVec 32 := 4#32
  let v4 : BitVec 32 := Scalar.remsi v2 c4_i32_0
  let c4_i32_14 : BitVec 32 := 4#32
  let v22 : BitVec 32 := Scalar.addi v4 c4_i32_14
  let c4_i32_15 : BitVec 32 := 4#32
  let v23 : BitVec 32 := Scalar.remsi v22 c4_i32_15
  let v24 : BitVec 32 := Scalar.addi v21 v23
  let c1_i32_118 : BitVec 32 := 1#32
  let v152 : BitVec 32 := Scalar.muli v24 c1_i32_118
  let v153 : BitVec 32 := Scalar.addi c0_i32_119 v152
  v153.toNat
def k0_off8 (d0 : Dev nD) (c0_i32_129 : BitVec 32) : Fin 2 → Nat :=
  let c1_i32_12 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v20 : BitVec 32 := Scalar.subi c1_i32_12 v3
  let c4_i32_13 : BitVec 32 := 4#32
  let v21 : BitVec 32 := Scalar.muli v20 c4_i32_13
  let c4_i32_0 : BitVec 32 := 4#32
  let v4 : BitVec 32 := Scalar.remsi v2 c4_i32_0
  let c4_i32_14 : BitVec 32 := 4#32
  let v22 : BitVec 32 := Scalar.addi v4 c4_i32_14
  let c4_i32_15 : BitVec 32 := 4#32
  let v23 : BitVec 32 := Scalar.remsi v22 c4_i32_15
  let v24 : BitVec 32 := Scalar.addi v21 v23
  let c512_i32_128 : BitVec 32 := 512#32
  let v166 : BitVec 32 := Scalar.muli v24 c512_i32_128
  let v167 : BitVec 32 := Scalar.addi v166 c0_i32_129
  let c0_i32_134 : BitVec 32 := 0#32
  ![v167.toNat, 0]
def k0_dev11 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_6 : BitVec 32 := 4#32
  let v11 : BitVec 32 := Scalar.muli v3 c4_i32_6
  let c4_i32_0 : BitVec 32 := 4#32
  let v4 : BitVec 32 := Scalar.remsi v2 c4_i32_0
  let c1_i32_5 : BitVec 32 := 1#32
  let v10 : BitVec 32 := Scalar.addi v4 c1_i32_5
  let c4_i32_7 : BitVec 32 := 4#32
  let v12 : BitVec 32 := Scalar.addi v10 c4_i32_7
  let c4_i32_8 : BitVec 32 := 4#32
  let v13 : BitVec 32 := Scalar.remsi v12 c4_i32_8
  let v14 : BitVec 32 := Scalar.addi v11 v13
  let c1_i32_132 : BitVec 32 := 1#32
  let v168 : BitVec 32 := Scalar.muli v14 c1_i32_132
  let v169 : BitVec 32 := Scalar.addi c0_i32_133 v168
  v169.toNat
def k0_dev12 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_2 : BitVec 32 := 4#32
  let v6 : BitVec 32 := Scalar.muli v3 c4_i32_2
  let c4_i32_0 : BitVec 32 := 4#32
  let v4 : BitVec 32 := Scalar.remsi v2 c4_i32_0
  let c1_i32_1 : BitVec 32 := 1#32
  let v5 : BitVec 32 := Scalar.subi v4 c1_i32_1
  let c4_i32_3 : BitVec 32 := 4#32
  let v7 : BitVec 32 := Scalar.addi v5 c4_i32_3
  let c4_i32_4 : BitVec 32 := 4#32
  let v8 : BitVec 32 := Scalar.remsi v7 c4_i32_4
  let v9 : BitVec 32 := Scalar.addi v6 v8
  let c1_i32_139 : BitVec 32 := 1#32
  let v178 : BitVec 32 := Scalar.muli v9 c1_i32_139
  let v179 : BitVec 32 := Scalar.addi c0_i32_140 v178
  v179.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_2 : BitVec 32 := 4#32
  let v6 : BitVec 32 := Scalar.muli v3 c4_i32_2
  let c4_i32_0 : BitVec 32 := 4#32
  let v4 : BitVec 32 := Scalar.remsi v2 c4_i32_0
  let c1_i32_1 : BitVec 32 := 1#32
  let v5 : BitVec 32 := Scalar.subi v4 c1_i32_1
  let c4_i32_3 : BitVec 32 := 4#32
  let v7 : BitVec 32 := Scalar.addi v5 c4_i32_3
  let c4_i32_4 : BitVec 32 := 4#32
  let v8 : BitVec 32 := Scalar.remsi v7 c4_i32_4
  let v9 : BitVec 32 := Scalar.addi v6 v8
  let c512_i32_143 : BitVec 32 := 512#32
  let v186 : BitVec 32 := Scalar.muli v9 c512_i32_143
  let c0_i32_144 : BitVec 32 := 0#32
  let v187 : BitVec 32 := Scalar.addi v186 c0_i32_144
  let v188 : Index := Scalar.indexCast v187
  let c0_145 : Index := 0#32
  ![v188.toNat, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_2 : BitVec 32 := 4#32
  let v6 : BitVec 32 := Scalar.muli v3 c4_i32_2
  let c4_i32_0 : BitVec 32 := 4#32
  let v4 : BitVec 32 := Scalar.remsi v2 c4_i32_0
  let c1_i32_1 : BitVec 32 := 1#32
  let v5 : BitVec 32 := Scalar.subi v4 c1_i32_1
  let c4_i32_3 : BitVec 32 := 4#32
  let v7 : BitVec 32 := Scalar.addi v5 c4_i32_3
  let c4_i32_4 : BitVec 32 := 4#32
  let v8 : BitVec 32 := Scalar.remsi v7 c4_i32_4
  let v9 : BitVec 32 := Scalar.addi v6 v8
  let c512_i32_149 : BitVec 32 := 512#32
  let v196 : BitVec 32 := Scalar.muli v9 c512_i32_149
  let c0_i32_150 : BitVec 32 := 0#32
  let v197 : BitVec 32 := Scalar.addi v196 c0_i32_150
  let v198 : Index := Scalar.indexCast v197
  let c0_151 : Index := 0#32
  ![v198.toNat, 0]
def k0_off11 (d0 : Dev nD) (c1_i32_5 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_6 : BitVec 32 := 4#32
  let v11 : BitVec 32 := Scalar.muli v3 c4_i32_6
  let c4_i32_0 : BitVec 32 := 4#32
  let v4 : BitVec 32 := Scalar.remsi v2 c4_i32_0
  let v10 : BitVec 32 := Scalar.addi v4 c1_i32_5
  let c4_i32_7 : BitVec 32 := 4#32
  let v12 : BitVec 32 := Scalar.addi v10 c4_i32_7
  let c4_i32_8 : BitVec 32 := 4#32
  let v13 : BitVec 32 := Scalar.remsi v12 c4_i32_8
  let v14 : BitVec 32 := Scalar.addi v11 v13
  let c512_i32_152 : BitVec 32 := 512#32
  let v200 : BitVec 32 := Scalar.muli v14 c512_i32_152
  let c0_i32_153 : BitVec 32 := 0#32
  let v201 : BitVec 32 := Scalar.addi v200 c0_i32_153
  let v202 : Index := Scalar.indexCast v201
  let c0_154 : Index := 0#32
  ![v202.toNat, 0]
def k0_off12 (d0 : Dev nD) (c1_i32_5 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_6 : BitVec 32 := 4#32
  let v11 : BitVec 32 := Scalar.muli v3 c4_i32_6
  let c4_i32_0 : BitVec 32 := 4#32
  let v4 : BitVec 32 := Scalar.remsi v2 c4_i32_0
  let v10 : BitVec 32 := Scalar.addi v4 c1_i32_5
  let c4_i32_7 : BitVec 32 := 4#32
  let v12 : BitVec 32 := Scalar.addi v10 c4_i32_7
  let c4_i32_8 : BitVec 32 := 4#32
  let v13 : BitVec 32 := Scalar.remsi v12 c4_i32_8
  let v14 : BitVec 32 := Scalar.addi v11 v13
  let c512_i32_158 : BitVec 32 := 512#32
  let v210 : BitVec 32 := Scalar.muli v14 c512_i32_158
  let c0_i32_159 : BitVec 32 := 0#32
  let v211 : BitVec 32 := Scalar.addi v210 c0_i32_159
  let v212 : Index := Scalar.indexCast v211
  let c0_160 : Index := 0#32
  ![v212.toNat, 0]
def k0_off13 (d0 : Dev nD) : Fin 2 → Nat :=
  let c1_i32_12 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v20 : BitVec 32 := Scalar.subi c1_i32_12 v3
  let c4_i32_13 : BitVec 32 := 4#32
  let v21 : BitVec 32 := Scalar.muli v20 c4_i32_13
  let c4_i32_0 : BitVec 32 := 4#32
  let v4 : BitVec 32 := Scalar.remsi v2 c4_i32_0
  let c4_i32_14 : BitVec 32 := 4#32
  let v22 : BitVec 32 := Scalar.addi v4 c4_i32_14
  let c4_i32_15 : BitVec 32 := 4#32
  let v23 : BitVec 32 := Scalar.remsi v22 c4_i32_15
  let v24 : BitVec 32 := Scalar.addi v21 v23
  let c512_i32_161 : BitVec 32 := 512#32
  let v214 : BitVec 32 := Scalar.muli v24 c512_i32_161
  let c0_i32_162 : BitVec 32 := 0#32
  let v215 : BitVec 32 := Scalar.addi v214 c0_i32_162
  let v216 : Index := Scalar.indexCast v215
  let c0_163 : Index := 0#32
  ![v216.toNat, 0]
def k0_off14 (d0 : Dev nD) : Fin 2 → Nat :=
  let c1_i32_12 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v20 : BitVec 32 := Scalar.subi c1_i32_12 v3
  let c4_i32_13 : BitVec 32 := 4#32
  let v21 : BitVec 32 := Scalar.muli v20 c4_i32_13
  let c4_i32_0 : BitVec 32 := 4#32
  let v4 : BitVec 32 := Scalar.remsi v2 c4_i32_0
  let c4_i32_14 : BitVec 32 := 4#32
  let v22 : BitVec 32 := Scalar.addi v4 c4_i32_14
  let c4_i32_15 : BitVec 32 := 4#32
  let v23 : BitVec 32 := Scalar.remsi v22 c4_i32_15
  let v24 : BitVec 32 := Scalar.addi v21 v23
  let c512_i32_167 : BitVec 32 := 512#32
  let v224 : BitVec 32 := Scalar.muli v24 c512_i32_167
  let c0_i32_168 : BitVec 32 := 0#32
  let v225 : BitVec 32 := Scalar.addi v224 c0_i32_168
  let v226 : Index := Scalar.indexCast v225
  let c0_169 : Index := 0#32
  ![v226.toNat, 0]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let c4_i32_9 : BitVec 32 := 4#32
  let v16 : BitVec 32 := Scalar.muli v3 c4_i32_9
  let c4_i32_0 : BitVec 32 := 4#32
  let v4 : BitVec 32 := Scalar.remsi v2 c4_i32_0
  let c2_i32 : BitVec 32 := 2#32
  let v15 : BitVec 32 := Scalar.addi v4 c2_i32
  let c4_i32_10 : BitVec 32 := 4#32
  let v17 : BitVec 32 := Scalar.addi v15 c4_i32_10
  let c4_i32_11 : BitVec 32 := 4#32
  let v18 : BitVec 32 := Scalar.remsi v17 c4_i32_11
  let v19 : BitVec 32 := Scalar.addi v16 v18
  let c512_i32_182 : BitVec 32 := 512#32
  let v240 : BitVec 32 := Scalar.muli v19 c512_i32_182
  let c0_i32_183 : BitVec 32 := 0#32
  let v241 : BitVec 32 := Scalar.addi v240 c0_i32_183
  let c0_i32_188 : BitVec 32 := 0#32
  ![v241.toNat, 0]
def k0_dev13 (d0 : Dev nD) : Nat :=
  let c0_i32_187 : BitVec 32 := 0#32
  let c1_i32_12 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v20 : BitVec 32 := Scalar.subi c1_i32_12 v3
  let c4_i32_13 : BitVec 32 := 4#32
  let v21 : BitVec 32 := Scalar.muli v20 c4_i32_13
  let c4_i32_0 : BitVec 32 := 4#32
  let v4 : BitVec 32 := Scalar.remsi v2 c4_i32_0
  let c4_i32_14 : BitVec 32 := 4#32
  let v22 : BitVec 32 := Scalar.addi v4 c4_i32_14
  let c4_i32_15 : BitVec 32 := 4#32
  let v23 : BitVec 32 := Scalar.remsi v22 c4_i32_15
  let v24 : BitVec 32 := Scalar.addi v21 v23
  let c1_i32_186 : BitVec 32 := 1#32
  let v242 : BitVec 32 := Scalar.muli v24 c1_i32_186
  let v243 : BitVec 32 := Scalar.addi c0_i32_187 v242
  v243.toNat
def k0_off16 (d0 : Dev nD) : Fin 2 → Nat :=
  let c1_i32_17 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v26 : BitVec 32 := Scalar.subi c1_i32_17 v3
  let c4_i32_18 : BitVec 32 := 4#32
  let v27 : BitVec 32 := Scalar.muli v26 c4_i32_18
  let c4_i32_0 : BitVec 32 := 4#32
  let v4 : BitVec 32 := Scalar.remsi v2 c4_i32_0
  let c1_i32_16 : BitVec 32 := 1#32
  let v25 : BitVec 32 := Scalar.subi v4 c1_i32_16
  let c4_i32_19 : BitVec 32 := 4#32
  let v28 : BitVec 32 := Scalar.addi v25 c4_i32_19
  let c4_i32_20 : BitVec 32 := 4#32
  let v29 : BitVec 32 := Scalar.remsi v28 c4_i32_20
  let v30 : BitVec 32 := Scalar.addi v27 v29
  let c512_i32_211 : BitVec 32 := 512#32
  let v276 : BitVec 32 := Scalar.muli v30 c512_i32_211
  let c0_i32_212 : BitVec 32 := 0#32
  let v277 : BitVec 32 := Scalar.addi v276 c0_i32_212
  let v278 : Index := Scalar.indexCast v277
  let c0_213 : Index := 0#32
  ![v278.toNat, 0]
def k0_off17 (d0 : Dev nD) : Fin 2 → Nat :=
  let c1_i32_17 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v26 : BitVec 32 := Scalar.subi c1_i32_17 v3
  let c4_i32_18 : BitVec 32 := 4#32
  let v27 : BitVec 32 := Scalar.muli v26 c4_i32_18
  let c4_i32_0 : BitVec 32 := 4#32
  let v4 : BitVec 32 := Scalar.remsi v2 c4_i32_0
  let c1_i32_16 : BitVec 32 := 1#32
  let v25 : BitVec 32 := Scalar.subi v4 c1_i32_16
  let c4_i32_19 : BitVec 32 := 4#32
  let v28 : BitVec 32 := Scalar.addi v25 c4_i32_19
  let c4_i32_20 : BitVec 32 := 4#32
  let v29 : BitVec 32 := Scalar.remsi v28 c4_i32_20
  let v30 : BitVec 32 := Scalar.addi v27 v29
  let c512_i32_217 : BitVec 32 := 512#32
  let v286 : BitVec 32 := Scalar.muli v30 c512_i32_217
  let c0_i32_218 : BitVec 32 := 0#32
  let v287 : BitVec 32 := Scalar.addi v286 c0_i32_218
  let v288 : Index := Scalar.indexCast v287
  let c0_219 : Index := 0#32
  ![v288.toNat, 0]
def k0_off18 (d0 : Dev nD) (c1_i32_21 : BitVec 32) : Fin 2 → Nat :=
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v32 : BitVec 32 := Scalar.subi c1_i32_22 v3
  let c4_i32_23 : BitVec 32 := 4#32
  let v33 : BitVec 32 := Scalar.muli v32 c4_i32_23
  let c4_i32_0 : BitVec 32 := 4#32
  let v4 : BitVec 32 := Scalar.remsi v2 c4_i32_0
  let v31 : BitVec 32 := Scalar.addi v4 c1_i32_21
  let c4_i32_24 : BitVec 32 := 4#32
  let v34 : BitVec 32 := Scalar.addi v31 c4_i32_24
  let c4_i32_25 : BitVec 32 := 4#32
  let v35 : BitVec 32 := Scalar.remsi v34 c4_i32_25
  let v36 : BitVec 32 := Scalar.addi v33 v35
  let c512_i32_232 : BitVec 32 := 512#32
  let v302 : BitVec 32 := Scalar.muli v36 c512_i32_232
  let c0_i32_233 : BitVec 32 := 0#32
  let v303 : BitVec 32 := Scalar.addi v302 c0_i32_233
  let v304 : Index := Scalar.indexCast v303
  let c0_234 : Index := 0#32
  ![v304.toNat, 0]
def k0_off19 (d0 : Dev nD) (c1_i32_21 : BitVec 32) : Fin 2 → Nat :=
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.divsi v2 c4_i32
  let v32 : BitVec 32 := Scalar.subi c1_i32_22 v3
  let c4_i32_23 : BitVec 32 := 4#32
  let v33 : BitVec 32 := Scalar.muli v32 c4_i32_23
  let c4_i32_0 : BitVec 32 := 4#32
  let v4 : BitVec 32 := Scalar.remsi v2 c4_i32_0
  let v31 : BitVec 32 := Scalar.addi v4 c1_i32_21
  let c4_i32_24 : BitVec 32 := 4#32
  let v34 : BitVec 32 := Scalar.addi v31 c4_i32_24
  let c4_i32_25 : BitVec 32 := 4#32
  let v35 : BitVec 32 := Scalar.remsi v34 c4_i32_25
  let v36 : BitVec 32 := Scalar.addi v33 v35
  let c512_i32_238 : BitVec 32 := 512#32
  let v312 : BitVec 32 := Scalar.muli v36 c512_i32_238
  let c0_i32_239 : BitVec 32 := 0#32
  let v313 : BitVec 32 := Scalar.addi v312 c0_i32_239
  let v314 : Index := Scalar.indexCast v313
  let c0_240 : Index := 0#32
  ![v314.toNat, 0]
abbrev stage0_0 : Fin 1 → Memref sig .tc .vmem S512x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdeal.Sched.lean ====
/- The all-gather's protocol: who talks to whom, which rows travel, what each cell hands over. -/
module

public import proofs.«01_k».proof.Proof.Gen.KernelIdeal.Frame
public import proofs.«01_k».proof.Proof.Gen.KernelIdeal.Skeleton
public import Idealize.ShloMosaic.Lib.Rounds
public import Idealize.ShloMosaic.Lib.Pipeline.RegionTalk

@[expose] public section

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's algebra beside the protocol's: three duties at most in one round. -/
abbrev UU : Type := UR sig nD τ × URounds (GSem nD τ sig) (Fin 3)
local notation "𝕄" => MT nD τ sig Unit (Elt F) ℕ UU ℕ

/-- The protocol's own part of the algebra. -/
abbrev ER : Emb (URounds (GSem nD τ sig) (Fin 3)) 𝕄 := embR
/-- The pipeline's part. -/
abbrev EP : Emb (UR sig nD τ) 𝕄 := embL

/-! ## The devices: two planes of four in a ring -/

def lf (c : Dev nD) : Dev nD := ⟨4 * (c.1 / 4) + (c.1 % 4 + 3) % 4, by have := c.2; simp only [nD] at *; omega⟩
def rt (c : Dev nD) : Dev nD := ⟨4 * (c.1 / 4) + (c.1 % 4 + 1) % 4, by have := c.2; simp only [nD] at *; omega⟩
def cn (c : Dev nD) : Dev nD := ⟨4 * (c.1 / 4) + (c.1 % 4 + 2) % 4, by have := c.2; simp only [nD] at *; omega⟩
def pt (c : Dev nD) : Dev nD := ⟨(c.1 + 4) % 8, by simp only [nD]; omega⟩

/-- The neighbour a group of transfers goes to: right, left, the other plane. -/
def nbE : Fin 3 → (Dev nD ≃ Dev nD)
  | 0 => ⟨rt, lf, by decide, by decide⟩
  | 1 => ⟨lf, rt, by decide, by decide⟩
  | 2 => ⟨pt, pt, by decide, by decide⟩

/-- The group of a transfer. -/
def grp (j : Fin 10) : Fin 3 := if j.1 < 3 then 0 else if j.1 < 6 then 1 else 2
/-- Whom transfer `j` of device `c` goes to, and whom the one landing at `c` comes from. -/
def dst (j : Fin 10) (c : Dev nD) : Dev nD := nbE (grp j) c
def src (j : Fin 10) (c : Dev nD) : Dev nD := (nbE (grp j)).symm c
theorem dst_src (j : Fin 10) (c : Dev nD) : dst j (src j c) = c := (nbE (grp j)).apply_symm_apply c
theorem src_dst (j : Fin 10) (c : Dev nD) : src j (dst j c) = c := (nbE (grp j)).symm_apply_apply c

/-- Whose block transfer `j` of device `c` carries a part of. -/
def own (j : Fin 10) (c : Dev nD) : Dev nD :=
  match j with
  | 0 => c | 1 => lf c | 2 => pt c | 3 => c | 4 => rt c | 5 => pt c | 6 => c | 7 => lf c | 8 => rt c | 9 => cn c
/-- Which part: the first row, in the block, and the row after the last, by sixty-fours. -/
def lo : Fin 10 → ℕ := ![0, 0, 0, 0, 4, 1, 0, 7, 0, 0]
def hi : Fin 10 → ℕ := ![8, 4, 7, 8, 8, 8, 8, 8, 1, 8]

/-! ## Row sets of the gathered array -/

/-- The elements of the gathered array in rows `a ≤ i < b`. -/
def rws (a b : ℕ) : Finset S4096x4096.Idx := Finset.univ.filter fun i => a ≤ (i 0).1 ∧ (i 0).1 < b
theorem mem_rws {a b : ℕ} {i : S4096x4096.Idx} : i ∈ rws a b ↔ a ≤ (i 0).1 ∧ (i 0).1 < b := by
  unfold rws; rw [Finset.mem_filter]; exact ⟨fun h => h.2, fun h => ⟨Finset.mem_univ _, h⟩⟩

/-- The elements transfer `j` of device `c` carries: at `c` its source, at `dst j c` its window. -/
def sset (j : Fin 10) (c : Dev nD) : Finset S4096x4096.Idx := rws (512 * (own j c).1 + 64 * lo j) (512 * (own j c).1 + 64 * hi j)
/-- Block `o` of the gathered array. -/
def blk (o : Dev nD) : Finset S4096x4096.Idx := rws (512 * o.1) (512 * o.1 + 512)

/-- The eleven parts of the gathered array at `c`: its own block, and the ten windows. -/
def part (c : Dev nD) : Option (Fin 10) → Finset S4096x4096.Idx
  | none => blk c
  | some j => sset j (src j c)

theorem rws_disjoint {a b a' b' : ℕ} (h : b ≤ a' ∨ b' ≤ a) : Disjoint (rws a b) (rws a' b') := by
  rw [Finset.disjoint_left]; intro i h1 h2; rw [mem_rws] at h1 h2; omega
theorem rws_subset {a b a' b' : ℕ} (h1 : a' ≤ a) (h2 : b ≤ b') : rws a b ⊆ rws a' b' := by
  intro i hi; rw [mem_rws] at hi ⊢; omega

/-- The two ends of a part, by sixty-fours. -/
def pLo (c : Dev nD) : Option (Fin 10) → ℕ
  | none => 8 * c.1
  | some j => 8 * (own j (src j c)).1 + lo j
def pHi (c : Dev nD) : Option (Fin 10) → ℕ
  | none => 8 * c.1 + 8
  | some j => 8 * (own j (src j c)).1 + hi j
theorem part_eq (c : Dev nD) (p : Option (Fin 10)) : part c p = rws (64 * pLo c p) (64 * pHi c p) := by
  cases p <;> (simp only [part, blk, sset, pLo, pHi]; congr 1 <;> omega)

theorem part_disjoint (c : Dev nD) : ∀ p q, p ≠ q → Disjoint (part c p) (part c q) := by
  have h : ∀ (c : Dev nD) (p q : Option (Fin 10)), p ≠ q → pHi c p ≤ pLo c q ∨ pHi c q ≤ pLo c p := by decide +kernel
  intro p q hpq
  rw [part_eq, part_eq]
  exact rws_disjoint (by have := h c p q hpq; omega)
theorem part_all (c : Dev nD) (i : S4096x4096.Idx) : ∃ p, i ∈ part c p := by
  have h : ∀ (c : Dev nD) (k : Fin 64), ∃ p, pLo c p ≤ k.1 ∧ k.1 < pHi c p := by decide +kernel
  have hi : (i 0).1 < 4096 := (i 0).2
  obtain ⟨p, h1, h2⟩ := h c ⟨(i 0).1 / 64, by omega⟩
  refine ⟨p, ?_⟩; rw [part_eq, mem_rws]; dsimp only at h1 h2; omega

/-! ## Contents -/

/-- A row and a column of a block. -/
def ix {a b : ℕ} (r k : ℕ) (hr : r < a) (hk : k < b) : (⟨2, ![a, b]⟩ : Shape).Idx :=
  Fin.cons ⟨r, hr⟩ (Fin.cons ⟨k, hk⟩ finZeroElim)

/-- The gathered array: block `o` is what device `o` staged of its shard. -/
def GX (xs : Dev nD → Vec F S512x4096 .fp8e4m3) : S4096x4096.Idx → Elt F .fp8e4m3 := fun i =>
  k0_pay1 (xs ⟨(i 0).1 / 512, by have : (i 0).1 < 4096 := (i 0).2; simp only [nD]; omega⟩)
    (ix ((i 0).1 % 512) (i 1).1 (Nat.mod_lt _ (by decide)) (show (i 1).1 < 4096 from (i 1).2))

/-- The result on one device: block `o` from the staged shard of device `o`. -/
def OUT (xs : Dev nD → Vec F S512x4096 .fp8e4m3) (w : Vec F S4096x1024 .fp8e4m3) (s : Elt F .f32) : S4096x1024.Idx → Elt F .f32 := fun i =>
  k0_pay4 s (k0_pay1 (xs ⟨(i 0).1 / 512, by have : (i 0).1 < 4096 := (i 0).2; simp only [nD]; omega⟩)) w
    (ix ((i 0).1 % 512) (i 1).1 (Nat.mod_lt _ (by decide)) (show (i 1).1 < 1024 from (i 1).2))

/-! ## Cells -/

abbrev barS : Sem sig := barrier0
abbrev sendS (j : Fin 10) : DmaSem sig := ⟨if j.1 < 3 then 4 + j.1 else if j.1 < 6 then 7 + j.1 else 10 + j.1, by revert j; decide⟩
abbrev recvS (j : Fin 10) : DmaSem sig := ⟨if j.1 < 3 then 7 + j.1 else if j.1 < 6 then 10 + j.1 else 14 + j.1, by revert j; decide⟩

abbrev barCell (c : Dev nD) : GSem nD τ sig := ((c : Thread nD τ), .reg barS)
abbrev sendCell (j : Fin 10) (c : Dev nD) : GSem nD τ sig := ((c : Thread nD τ), .dma (sendS j))
abbrev recvCell (j : Fin 10) (c : Dev nD) : GSem nD τ sig := ((c : Thread nD τ), .dma (recvS j))

/-- What a DMA semaphore is for. -/
def kindOf (s : DmaSem sig) : Option (Bool × Fin 10) :=
  ((List.finRange 10).find? fun j => s = sendS j).elim
    (((List.finRange 10).find? fun j => s = recvS j).map fun j => (false, j)) (fun j => some (true, j))
theorem kind_send : ∀ j, kindOf (sendS j) = some (true, j) := by decide +kernel
theorem kind_recv : ∀ j, kindOf (recvS j) = some (false, j) := by decide +kernel

/-- The shape of the windows of transfer `j`. -/
def shp : Fin 10 → Shape
  | 0 => S512x4096 | 1 => S256x4096 | 2 => S448x4096 | 3 => S512x4096 | 4 => S256x4096 | 5 => S448x4096
  | 6 => S512x4096 | 7 => S64x4096 | 8 => S64x4096 | 9 => S512x4096
/-- What a transfer credits at either end. -/
def N (j : Fin 10) : ℕ := sig.dmaCredit .tc (Kind.tc.table .vmem) (Memref.whole cc0_scratch0).view.buf (shp j) .fp8e4m3
theorem N_pos (j : Fin 10) : 0 < N j :=
  sig.dmaCredit_pos _ _ _ _ _ (by revert j; decide)

/-! ## Shares -/

/-- The share of its block a transfer's source holds. -/
def qs : Fin 10 → PosShare TreeShare
  | 0 | 1 | 2 | 4 => fullShare.left.left
  | 3 | 5 | 7 | 8 => fullShare.left.right
  | 6 => fullShare.right.left
  | 9 => fullShare.left

/-! ## What the cells hand over -/

section Payloads

variable (xs : Dev nD → Vec F S512x4096 .fp8e4m3)

/-- The gathered array of device `c`. -/
abbrev gxL (c : Dev nD) : Loc nD τ sig := (c : Thread nD τ).loc cc0_scratch0
/-- Elements of it, at a share. -/
abbrev gxP (c : Dev nD) (S : Finset S4096x4096.Idx) (q : PosShare TreeShare) (f : S4096x4096.Idx → Elt F .fp8e4m3) : sProp 𝕄 :=
  gxL c ↦[S]{q} f

/-- Transfer `j`'s window at the device `c` sends to, free to be written. -/
def winPay (j : Fin 10) (c : Dev nD) : sProp 𝕄 :=
  iprop((∃ f, gxP (dst j c) (sset j c) fullShare f) ∗ reached ER (recvCell j (dst j c)) 0)
/-- What a neighbour's signal hands to `c`: its windows for `c`'s transfers. -/
def barPay (d : Fin 3) (c : Dev nD) : sProp 𝕄 :=
  match d with
  | 0 => iprop(winPay 0 c ∗ winPay 1 c ∗ winPay 2 c)
  | 1 => iprop(winPay 3 c ∗ winPay 4 c ∗ winPay 5 c)
  | 2 => iprop(winPay 6 c ∗ winPay 7 c ∗ winPay 8 c ∗ winPay 9 c)
/-- What has landed, and what is done being read. -/
def recvPay (j : Fin 10) (c : Dev nD) : sProp 𝕄 := gxP c (sset j (src j c)) fullShare (GX xs)
def sendPay (j : Fin 10) (c : Dev nD) : sProp 𝕄 := gxP c (sset j c) (qs j) (GX xs)

def dmaPay (k : Option (Bool × Fin 10)) (c : Dev nD) : sProp 𝕄 :=
  match k with
  | some (true, j) => sendPay xs j c
  | some (false, j) => recvPay xs j c
  | none => iprop(emp)

instance barPay_storable (d : Fin 3) (c : Dev nD) : BI.Storable (upEmb : UEmb _ 𝕄) (barPay (F := F) d c) := by
  unfold barPay winPay; split <;> infer_instance
instance dmaPay_storable (k : Option (Bool × Fin 10)) (c : Dev nD) : BI.Storable (upEmb : UEmb _ 𝕄) (dmaPay xs k c) := by
  unfold dmaPay sendPay recvPay; split <;> infer_instance

/-- One round: three signals at a barrier cell, one credit at each end of each transfer. -/
def sched : Rounds.Schedule (GSem nD τ sig) (Fin 3) 𝕄 where
  duties g r := if r = 0 ∧ g.1.2 = .tc then
      (match g.2 with | .reg s => if s = barS then Finset.univ else ∅ | .dma s => if (kindOf s).isSome then {0} else ∅)
    else ∅
  unitless _ := False
  amount g _ _ := match g.2 with
    | .reg _ => 1
    | .dma s => match kindOf s with | some (_, j) => N j | none => 1
  payload g _ d := match g.2 with
    | .reg _ => barPay d g.1.1
    | .dma s => dmaPay xs (kindOf s) g.1.1
  amount_pos g _ _ _ := by
    split
    · exact Nat.one_pos
    · split
      · exact N_pos _
      · exact Nat.one_pos

instance sched_storable (g : GSem nD τ sig) (r : ℕ) (d : Fin 3) : BI.Storable (upEmb : UEmb _ 𝕄) ((sched xs).payload g r d) := by
  show BI.Storable upEmb (match g.2 with | .reg _ => barPay d g.1.1 | .dma s => dmaPay xs (kindOf s) g.1.1)
  split <;> infer_instance

theorem duties_bar (c : Dev nD) : (sched xs).duties (barCell c) 0 = Finset.univ := by
  dsimp only [sched]; rw [if_pos ⟨rfl, rfl⟩]; exact if_pos rfl
theorem duties_send (j : Fin 10) (c : Dev nD) : (sched xs).duties (sendCell j c) 0 = {0} := by
  dsimp only [sched]; rw [if_pos ⟨rfl, rfl⟩, kind_send]; rfl
theorem duties_recv (j : Fin 10) (c : Dev nD) : (sched xs).duties (recvCell j c) 0 = {0} := by
  dsimp only [sched]; rw [if_pos ⟨rfl, rfl⟩, kind_recv]; rfl
theorem duties_later (g : GSem nD τ sig) : ∀ r, 0 + 1 ≤ r → (sched xs).duties g r = ∅ :=
  fun r hr => by dsimp only [sched]; rw [if_neg (fun h => by omega)]

theorem amount_bar (c : Dev nD) (d : Fin 3) : (sched xs).amount (barCell c) 0 d = 1 := rfl
theorem amount_send (j : Fin 10) (c : Dev nD) (d : Fin 3) : (sched xs).amount (sendCell j c) 0 d = N j := by
  dsimp only [sched]; rw [kind_send]
theorem amount_recv (j : Fin 10) (c : Dev nD) (d : Fin 3) : (sched xs).amount (recvCell j c) 0 d = N j := by
  dsimp only [sched]; rw [kind_recv]

theorem expect_bar (c : Dev nD) : (sched xs).expect (barCell c) 0 = 3 := by
  unfold Schedule.expect Schedule.amountOf; rw [duties_bar]; rfl
theorem expect_send (j : Fin 10) (c : Dev nD) : (sched xs).expect (sendCell j c) 0 = N j := by
  unfold Schedule.expect Schedule.amountOf; rw [duties_send, Finset.sum_singleton, amount_send]
theorem expect_recv (j : Fin 10) (c : Dev nD) : (sched xs).expect (recvCell j c) 0 = N j := by
  unfold Schedule.expect Schedule.amountOf; rw [duties_recv, Finset.sum_singleton, amount_recv]

theorem payload_bar (c : Dev nD) (d : Fin 3) : (sched xs).payload (barCell c) 0 d = barPay d c := rfl
theorem payload_send (j : Fin 10) (c : Dev nD) (d : Fin 3) : (sched xs).payload (sendCell j c) 0 d = sendPay xs j c := by
  dsimp only [sched]; rw [kind_send]; rfl
theorem payload_recv (j : Fin 10) (c : Dev nD) (d : Fin 3) : (sched xs).payload (recvCell j c) 0 d = recvPay xs j c := by
  dsimp only [sched]; rw [kind_recv]; rfl

theorem rest_bar (c : Dev nD) :
    bigSep ((sched xs).duties (barCell c) 0 \ ∅) (fun d => (sched xs).payload (barCell c) 0 d)
      = iprop(barPay 0 c ∗ barPay 1 c ∗ barPay 2 c) := by
  rw [Finset.sdiff_empty, duties_bar]
  simp only [payload_bar]
  rw [show (Finset.univ : Finset (Fin 3)) = insert 0 (insert 1 {2}) by decide,
    bigSep_insert (by decide), bigSep_insert (by decide), bigSep_singleton]
  rfl
theorem rest_send (j : Fin 10) (c : Dev nD) :
    bigSep ((sched xs).duties (sendCell j c) 0 \ ∅) (fun d => (sched xs).payload (sendCell j c) 0 d) = sendPay xs j c := by
  rw [Finset.sdiff_empty, duties_send, bigSep_singleton, payload_send]
theorem rest_recv (j : Fin 10) (c : Dev nD) :
    bigSep ((sched xs).duties (recvCell j c) 0 \ ∅) (fun d => (sched xs).payload (recvCell j c) 0 d) = recvPay xs j c := by
  rw [Finset.sdiff_empty, duties_recv, bigSep_singleton, payload_recv]

end Payloads

/-! ## What each device owes, and the order of waiting -/

/-- The credits of the listed transfers of `c`, the head the first to be paid. -/
def owe : List (Fin 10) → Dev nD → CellTallies nD τ sig Unit
  | [], _ => 0
  | j :: l, c => owe l c + tallyAt (recvCell j (dst j c)) () (N j)
/-- The order the transfers are sent in. -/
abbrev order : List (Fin 10) := [0, 3, 6, 1, 7, 4, 8, 2, 5, 9]
/-- One unit at the barrier of the device `c` is the `d`-neighbour of. -/
abbrev barUnit (d : Fin 3) (c : Dev nD) : CellTallies nD τ sig Unit := tallyAt (barCell ((nbE d).symm c)) () 1
/-- Everything `c` owes at launch. -/
def O₀ (c : Dev nD) : CellTallies nD τ sig Unit := ((owe order c + barUnit 2 c) + barUnit 1 c) + barUnit 0 c

def L (g : GSem nD τ sig) : Finset Unit := if g.1.2 = .tc then {()} else ∅
/-- How many transfers must have landed somewhere for this one to be sent. -/
def lvR : Fin 10 → ℕ := ![2, 3, 3, 2, 3, 3, 2, 3, 3, 4]
def lvS : SemLoc sig → ℕ
  | .reg _ => 1
  | .dma s => match kindOf s with | some (false, j) => lvR j | _ => 0
def lv (g : GSem nD τ sig) (_ : Unit) : ℕ := lvS g.2
theorem lvS_recv (j : Fin 10) : lvS (.dma (recvS j)) = lvR j := by simp only [lvS, kind_recv]
theorem lvS_send (j : Fin 10) : lvS (.dma (sendS j)) = 0 := by simp only [lvS, kind_send]

theorem L_of_ne (g : GSem nD τ sig) (h : g.1.2 ≠ .tc) : L g = ∅ := if_neg h
theorem L_tc (c : Dev nD) (sm : SemLoc sig) : L ((c : Thread nD τ), sm) = {()} := if_pos rfl

theorem owe_pos {l : List (Fin 10)} {c : Dev nD} {g : GSem nD τ sig} {u : Unit} (h : 0 < owe l c g u) :
    ∃ j ∈ l, g = recvCell j (dst j c) := by
  induction l with
  | nil => exact absurd h (Nat.lt_irrefl 0)
  | cons j l ih =>
    by_cases hg : g = recvCell j (dst j c)
    · exact ⟨j, List.mem_cons_self, hg⟩
    · have : owe (j :: l) c g u = owe l c g u + tallyAt (recvCell j (dst j c)) () (N j) g u := rfl
      rw [this, tallyAt_apply, if_neg (fun h => hg h.1), Nat.add_zero] at h
      obtain ⟨k, hk, e⟩ := ih h
      exact ⟨k, List.mem_cons_of_mem _ hk, e⟩

/-- Any wait at a level below those of the transfers still owed. -/
theorem mayWait (c : Dev nD) (sm : SemLoc sig) (l : List (Fin 10)) (h : ∀ j ∈ l, lvS sm < lvR j) :
    (levAts L lv : sProp 𝕄) ⊢ MayWait (c : Thread nD τ) sm () (owe l c) :=
  MayOwe.of_cut (L := L) (lev := lv) (lvS sm)
    (fun p hp => by rw [Finset.mem_singleton.mp hp, L_tc]; exact Finset.mem_singleton_self _)
    (fun g u hg => by obtain ⟨j, _, e⟩ := owe_pos hg; rw [e, L_tc]; exact Finset.mem_singleton_self _)
    (fun p hp => by rw [Finset.mem_singleton.mp hp]; exact le_rfl)
    (fun g u hg => by
      obtain ⟨j, hj, e⟩ := owe_pos hg; rw [e]
      show lvS sm < lvS (.dma (recvS j)); rw [lvS_recv]; exact h j hj)

end Cert.KernelIdeal.Gather
-- ==== Proof.KernelIdeal.Steps.lean ====
/- One memory operation of the kernel at a time: what it asks and what it leaves. -/
module

public import proofs.«01_k».proof.Proof.KernelIdeal.Sched

@[expose] public section

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Running a program of the kernel on device `c`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem lift_bind {α β : Type} {E : Type → Type} (e : E α) (k : α → Prog E β) : (Prog.lift e >>= k) = .op e k := rfl
theorem op_bind {α β γ : Type} {E : Type → Type} (e : E α) (k : α → Prog E β) (f : β → Prog E γ) :
    (Prog.op e k >>= f) = .op e (fun x => k x >>= f) := rfl
theorem ret_bind {α β : Type} {E : Type → Type} (a : α) (f : α → Prog E β) : ((Prog.ret a : Prog E α) >>= f) = f a := rfl
theorem pure_eq {α : Type} {E : Type → Type} (a : α) : (pure a : Prog E α) = .ret a := rfl

theorem run_ret {α : Type} (c : Dev nD) (a : α) (Q : α → sProp 𝕄) : Q a ⊢ run c (.ret a) Q := by
  unfold run; rw [wp_ret]; iintro H; imodintro; iexact H

/-! ## Rectangles of whole rows -/

theorem unit_set {off sz : Fin S4096x4096.rank → ℕ} (inb : ∀ a, off a + sz a ≤ S4096x4096.size a) {a b : ℕ}
    (h0 : off 0 = a) (h1 : off 1 = 0) (h2 : a + sz 0 = b) (h3 : sz 1 = 4096) :
    (Rect.unit (s := S4096x4096) off sz inb).set = rws a b := by
  ext i
  rw [Rect.mem_set_unit, mem_rws]
  have hi : (i 1).1 < 4096 := (i 1).2
  constructor
  · intro h; have := h 0; omega
  · intro h k
    have hk : k = 0 ∨ k = 1 := by revert k; decide
    rcases hk with rfl | rfl <;> omega

/-- The gathered array's buffer, whole. -/
abbrev gxM : Memref sig .tc .vmem S4096x4096 .fp8e4m3 := Memref.whole cc0_scratch0
abbrev w8M : Memref sig .tc .vmem S4096x1024 .fp8e4m3 := Memref.whole cc0_scratch1
abbrev xM : Memref sig .tc .vmem S512x4096 .fp8e4m3 := Memref.whole cc0_stg0_0
abbrev wM : Memref sig .tc .vmem S4096x1024 .fp8e4m3 := Memref.whole cc0_stg1_0
abbrev sM : Memref sig .tc .smem S1x1 .f32 := Memref.whole cc0_stg2_0
abbrev oM : Memref sig .tc .vmem S4096x1024 .f32 := Memref.whole cc0_stg3_0

/-- What a transfer writes is what it read. -/
theorem landed (r : Rect S4096x4096) (hr : ∀ a, r.stride a = 1) (fd g : S4096x4096.Idx → Elt F .fp8e4m3) :
    ∀ i ∈ r.set, (gxM.slice r hr).view.write (Elt F) fd ((gxM.slice r hr).view.read (Elt F) g) Finset.univ i = g i := by
  intro i hi
  have hi' : i ∈ (gxM.slice r hr).view.set := by
    show i ∈ ((View.whole cc0_scratch0).slice r).set
    rw [View.set_slice_whole]; exact hi
  obtain ⟨x, -, rfl⟩ := Finset.mem_map.mp hi'
  exact (View.write_emb_of_mem _ _ (Finset.mem_univ x)).trans rfl

/-! ## Transfers -/

section Talk

variable (xs : Dev nD → Vec F S512x4096 .fp8e4m3) (K : GSem nD τ sig → ℕ)

/-- What `c` needs to send transfer `j`: both cells, both duties. -/
def Xf (j : Fin 10) (c : Dev nD) : sProp 𝕄 :=
  iprop(cellInv ER (sched xs) (K (sendCell j c)) (sendCell j c) ∗ cellInv ER (sched xs) (K (recvCell j (dst j c))) (recvCell j (dst j c))
    ∗ dutyTok ER (sendCell j c) 0 0 ∗ reached ER (sendCell j c) 0 ∗ dutyTok ER (recvCell j (dst j c)) 0 0)
/-- What `c` needs to wait for transfer `j` to land, -/
def Rc (j : Fin 10) (c : Dev nD) : sProp 𝕄 :=
  iprop(cellInv ER (sched xs) (K (recvCell j c)) (recvCell j c) ∗ atPos ER (recvCell j c) 0 ∅ 0 ∗ cred (tallyAt (recvCell j c) () (N j)))
/-- and for its own transfer `j` to be done. -/
def Sn (j : Fin 10) (c : Dev nD) : sProp 𝕄 :=
  iprop(cellInv ER (sched xs) (K (sendCell j c)) (sendCell j c) ∗ atPos ER (sendCell j c) 0 ∅ 0)

theorem close (κ : ℕ) (g : GSem nD τ sig) :
    iprop(cellInv ER (sched xs) κ g ∗ atPos ER g (0 + 1) ∅ 0) ⊢ (|={Set.univ}=> semVal g 0 : sProp 𝕄) :=
  Rounds.cell_close ER (sched xs) (Set.mem_univ κ) id (duties_later xs g)

/-- Send transfer `j`. -/
theorem run_send {α : Type} {Q : α → sProp 𝕄} (j : Fin 10) (c : Dev nD) {sz off : Fin 2 → ℕ}
    {inb : ∀ a, off a + sz a ≤ S4096x4096.size a} {hr} {sS sR : DmaSem sig} {dd : Dev nD}
    (hsS : sS = sendS j) (hsR : sR = recvS j) (hdd : dd = dst j c)
    (hoff : off = ![512 * (own j c).1 + 64 * lo j, 0]) (hsz0 : 64 * lo j + sz 0 = 64 * hi j) (hsz1 : sz 1 = 4096)
    (hN : sig.dmaCredit .tc (Kind.tc.table .vmem) gxM.view.buf ⟨2, sz⟩ .fp8e4m3 = N j)
    (l : List (Fin 10)) {W : Waits sig Unit} {hsc h1 h2 h3} {k : PUnit → Prog (TpuEff nD τ sig (Elt F) Λ₀ .tc) α} :
    iprop(Xf xs K j c ∗ gxP c (sset j c) (qs j) (GX xs) ∗ winPay j c ∗ owes (c : Thread nD τ) (owe (j :: l) c) W)
      ⊢ iprop(((cred (tallyAt (sendCell j c) () (N j)) ∗ owes (c : Thread nD τ) (owe l c) W) -∗ run c (k ⟨⟩) Q)
        -∗ run c (.op (.enqueueDma (gxM.slice (Rect.unit (s := S4096x4096) off sz inb) hr)
            (.remote (Dev.tc dd) (gxM.slice (Rect.unit (s := S4096x4096) off sz inb) hr) (.dma sS) hsc) (.dma sR) h1 h2 h3) k) Q) := by
  subst hsS hsR hdd
  have hset : (gxM.slice (Rect.unit (s := S4096x4096) off sz inb) hr).view.set = sset j c := by
    show ((View.whole cc0_scratch0).slice _).set = _
    rw [View.set_slice_whole]
    exact unit_set inb (by rw [hoff]; rfl) (by rw [hoff]; rfl) (by omega) hsz1
  unfold Xf winPay
  iintro ⟨⟨#HIs, #HIr, HtS, #HrS, HtR⟩, Hsrc, ⟨⟨%fn, Hdst⟩, #HrR⟩, HO⟩ Hk
  iapply (Rounds.wp_send_pointsTo 𝒱₀ ER (sched xs) (c : Thread nD τ) none (c' := (dst j c : Thread nD τ))
      (src := gxM.slice (Rect.unit (s := S4096x4096) off sz inb) hr) (dst := gxM.slice (Rect.unit (s := S4096x4096) off sz inb) hr)
      (sS := .dma (sendS j)) (sem := .dma (recvS j)) (q := qs j) (fs := GX xs) (κ₁ := K (sendCell j c)) (κ₂ := K (recvCell j (dst j c)))
      (r₁ := 0) (r₂ := 0) (d₁ := 0) (d₂ := 0) (fd := fn)
      (by rw [duties_send]; exact Finset.mem_singleton_self _) (by rw [duties_recv]; exact Finset.mem_singleton_self _)
      () () (N j) hN (amount_send xs j c 0) (amount_recv xs j (dst j c) 0) (owe l c) rfl (W := W)
      (by rw [payload_send]; unfold sendPay; rw [hset])
      (by
        rw [payload_recv]; unfold recvPay; rw [src_dst, hset]
        refine Entails.of_eq (pointsTo_congr fun i hi => ?_)
        refine landed _ hr fn (GX xs) i ?_
        rw [← hset] at hi
        have := hi
        change i ∈ ((View.whole cc0_scratch0).slice _).set at this
        rwa [View.set_slice_whole] at this)) $$ [Hsrc Hdst HO HtS HtR]
  · isplitr; · iexact HIs
    isplitr; · iexact HIr
    isplitl [Hsrc]; · rw [hset]; iexact Hsrc
    isplitl [Hdst]; · rw [hset]; iexact Hdst
    isplitl [HO]; · iexact HO
    isplitl [HtS]; · iexact HtS
    isplitr; · iexact HrS
    isplitl [HtR]; · iexact HtR
    iexact HrR
  iexact Hk

/-- Wait for transfer `j` to land: its window, at its contents; the cell is done with. -/
theorem run_recv {α : Type} {Q : α → sProp 𝕄} (j : Fin 10) (c : Dev nD) {sz off off' : Fin 2 → ℕ}
    {inb : ∀ a, off a + sz a ≤ S4096x4096.size a} {inb' : ∀ a, off' a + sz a ≤ S4096x4096.size a} {hr hr'} {sR : DmaSem sig}
    (hsR : sR = recvS j)
    (hN : sig.dmaCredit .tc (Kind.tc.table .vmem) gxM.view.buf ⟨2, sz⟩ .fp8e4m3 = N j)
    (l : List (Fin 10)) (hl : ∀ i ∈ l, lvR j < lvR i) {W : Waits sig Unit} {h1 h2}
    {k : PUnit → Prog (TpuEff nD τ sig (Elt F) Λ₀ .tc) α} :
    iprop(Rc xs K j c ∗ levAts L lv ∗ owes (c : Thread nD τ) (owe l c) W)
      ⊢ iprop(((gxP c (sset j (src j c)) fullShare (GX xs) ∗ semVal (recvCell j c) 0 ∗ ∃ W', owes (c : Thread nD τ) (owe l c) W') -∗ run c (k ⟨⟩) Q)
        -∗ run c (.op (.waitDma2 sR (gxM.slice (Rect.unit (s := S4096x4096) off sz inb) hr)
            (gxM.slice (Rect.unit (s := S4096x4096) off' sz inb') hr') h1 h2) k) Q) := by
  subst hsR
  unfold Rc
  iintro ⟨⟨#HI, Hat, Hc⟩, #Hlev, HO⟩ Hk
  iapply (Rounds.wp_wait_rest_token 𝒱₀ ER (sched xs) (c : Thread nD τ) none (κ := K (recvCell j c))
      (wpE_waitDma2_eq 𝒱₀ (c : Thread nD τ) none Set.univ) (Set.mem_univ _) () (O := owe l c) (W := W) (R := 0) (m := 0) (T := ∅)
      ((Nat.zero_add _).trans (hN.trans (expect_recv xs j c).symm))) $$ [Hc HO Hat]
  · isplitr; · iexact HI
    isplitl [Hc]; · iapply (Entails.of_eq (congrArg (fun n => (cred (tallyAt (recvCell j c) () n) : sProp 𝕄)) hN.symm)); iexact Hc
    isplitl [HO]; · iexact HO
    isplitr; · iapply (mayWait c (.dma (recvS j)) l (by rw [lvS_recv]; exact hl)); iexact Hlev
    iexact Hat
  iintro ⟨HO, Hat, -, Hpay⟩
  ihave Hp := (Entails.of_eq (rest_recv xs j c)) $$ Hpay
  unfold recvPay
  imod (close xs (K (recvCell j c)) (recvCell j c)) $$ [Hat] with Hv
  · isplitr; · iexact HI
    iexact Hat
  iapply Hk
  isplitl [Hp]; · iexact Hp
  isplitl [Hv]; · iexact Hv
  iexists _; iexact HO

/-- Wait for the own transfer `j` to be done reading. -/
theorem run_sent {α : Type} {Q : α → sProp 𝕄} (j : Fin 10) (c : Dev nD) {sz off off' : Fin 2 → ℕ}
    {inb : ∀ a, off a + sz a ≤ S4096x4096.size a} {inb' : ∀ a, off' a + sz a ≤ S4096x4096.size a} {hr hr'} {sS : DmaSem sig}
    (hsS : sS = sendS j)
    (hN : sig.dmaCredit .tc (Kind.tc.table .vmem) gxM.view.buf ⟨2, sz⟩ .fp8e4m3 = N j)
    {W : Waits sig Unit} {h1 h2}
    {k : PUnit → Prog (TpuEff nD τ sig (Elt F) Λ₀ .tc) α} :
    iprop(Sn xs K j c ∗ cred (tallyAt (sendCell j c) () (N j)) ∗ owes (c : Thread nD τ) (0 : CellTallies nD τ sig Unit) W)
      ⊢ iprop(((gxP c (sset j c) (qs j) (GX xs) ∗ semVal (sendCell j c) 0 ∗ ∃ W', owes (c : Thread nD τ) (0 : CellTallies nD τ sig Unit) W') -∗ run c (k ⟨⟩) Q)
        -∗ run c (.op (.waitDma2 sS (gxM.slice (Rect.unit (s := S4096x4096) off sz inb) hr)
            (gxM.slice (Rect.unit (s := S4096x4096) off' sz inb') hr') h1 h2) k) Q) := by
  subst hsS
  unfold Sn
  iintro ⟨⟨#HI, Hat⟩, Hc, HO⟩ Hk
  iapply (Rounds.wp_wait_rest_token 𝒱₀ ER (sched xs) (c : Thread nD τ) none (κ := K (sendCell j c))
      (wpE_waitDma2_eq 𝒱₀ (c : Thread nD τ) none Set.univ) (Set.mem_univ _) () (O := 0) (W := W) (R := 0) (m := 0) (T := ∅)
      ((Nat.zero_add _).trans (hN.trans (expect_send xs j c).symm))) $$ [Hc HO Hat]
  · isplitr; · iexact HI
    isplitl [Hc]; · iapply (Entails.of_eq (congrArg (fun n => (cred (tallyAt (sendCell j c) () n) : sProp 𝕄)) hN.symm)); iexact Hc
    isplitl [HO]; · iexact HO
    isplitr; · rw [MayWait_zero]; iempintro
    iexact Hat
  iintro ⟨HO, Hat, -, Hpay⟩
  ihave Hp := (Entails.of_eq (rest_send xs j c)) $$ Hpay
  unfold sendPay
  imod (close xs (K (sendCell j c)) (sendCell j c)) $$ [Hat] with Hv
  · isplitr; · iexact HI
    iexact Hat
  iapply Hk
  isplitl [Hp]; · iexact Hp
  isplitl [Hv]; · iexact Hv
  iexists _; iexact HO

/-- Signal the neighbour whose `d`-neighbour `c` is: the windows it will write. -/
theorem run_signal {α : Type} {Q : α → sProp 𝕄} (d : Fin 3) (c : Dev nD) {dd : Dev nD} (hdd : dd = (nbE d).symm c)
    (O : CellTallies nD τ sig Unit) {W : Waits sig Unit}
    {k : PUnit → Prog (TpuEff nD τ sig (Elt F) Λ₀ .tc) α} :
    iprop(cellInv ER (sched xs) (K (barCell ((nbE d).symm c))) (barCell ((nbE d).symm c)) ∗ reached ER (barCell ((nbE d).symm c)) 0
        ∗ dutyTok ER (barCell ((nbE d).symm c)) 0 d ∗ barPay d ((nbE d).symm c) ∗ owes (c : Thread nD τ) (O + barUnit d c) W)
      ⊢ iprop((owes (c : Thread nD τ) O W -∗ run c (k ⟨⟩) Q)
        -∗ run c (.op (.semSignal (dd, .tc) (SemArray.scalar (d := ![]) (sig.barrier 0 rfl)).sem (1#32).toInt) k) Q) := by
  subst hdd
  iintro ⟨#HI, #Hr, Ht, Hp, HO⟩ Hk
  iapply (Rounds.wp_signal 𝒱₀ ER (sched xs) (c : Thread nD τ) none (dst := ((nbE d).symm c : Thread nD τ)) (sem := barS) (r := 0) (d := d)
      (κ := K (barCell ((nbE d).symm c)))
      (by rw [duties_bar]; exact Finset.mem_univ _) (amount_bar xs ((nbE d).symm c) d) () O rfl)
    $$ [HO Ht Hp]
  · isplitr; · iexact HI
    isplitl [HO]; · iexact HO
    isplitl [Ht]; · iexact Ht
    isplitl [Hp]; · rw [payload_bar]; iexact Hp
    iexact Hr
  iexact Hk

/-- Wait for the three neighbours. -/
theorem run_barrier {α : Type} {Q : α → sProp 𝕄} (c : Dev nD) (l : List (Fin 10)) (hl : ∀ i ∈ l, 1 < lvR i) {W : Waits sig Unit}
    {k : PUnit → Prog (TpuEff nD τ sig (Elt F) Λ₀ .tc) α} :
    iprop(cellInv ER (sched xs) (K (barCell c)) (barCell c) ∗ atPos ER (barCell c) 0 ∅ 0 ∗ cred (tallyAt (barCell c) () 3)
        ∗ levAts L lv ∗ owes (c : Thread nD τ) (owe l c) W)
      ⊢ iprop(((barPay 0 c ∗ barPay 1 c ∗ barPay 2 c ∗ semVal (barCell c) 0 ∗ ∃ W', owes (c : Thread nD τ) (owe l c) W') -∗ run c (k ⟨⟩) Q)
        -∗ run c (.op (.semWait (SemArray.scalar (d := ![]) (sig.barrier 0 rfl)).sem (3#32).toInt) k) Q) := by
  iintro ⟨#HI, Hat, Hc, #Hlev, HO⟩ Hk
  iapply (Rounds.wp_wait_rest_token 𝒱₀ ER (sched xs) (c : Thread nD τ) none (κ := K (barCell c))
      (wpE_semWait_eq 𝒱₀ (c : Thread nD τ) none Set.univ) (Set.mem_univ _) () (O := owe l c) (W := W) (R := 0) (m := 0) (T := ∅)
      ((Nat.zero_add 3).trans (expect_bar xs c).symm)) $$ [Hc HO Hat]
  · isplitr; · iexact HI
    isplitl [Hc]; · iexact Hc
    isplitl [HO]; · iexact HO
    isplitr; · iapply (mayWait c (.reg barS) l hl); iexact Hlev
    iexact Hat
  iintro ⟨HO, Hat, -, Hpay⟩
  ihave Hp := (Entails.of_eq (rest_bar xs c)) $$ Hpay
  icases Hp with ⟨Hp0, Hp1, Hp2⟩
  imod (close xs (K (barCell c)) (barCell c)) $$ [Hat] with Hv
  · isplitr; · iexact HI
    iexact Hat
  iapply Hk
  isplitl [Hp0]; · iexact Hp0
  isplitl [Hp1]; · iexact Hp1
  isplitl [Hp2]; · iexact Hp2
  isplitl [Hv]; · iexact Hv
  iexists _; iexact HO

end Talk

/-! ## Loads and stores -/

section Mem

variable (xs : Dev nD → Vec F S512x4096 .fp8e4m3) (w : Vec F S4096x1024 .fp8e4m3) (s : Elt F .f32)

theorem ix_eta {a b : ℕ} (x : (⟨2, ![a, b]⟩ : Shape).Idx) {r k : ℕ} (hr : r < a) (hk : k < b) (h0 : r = (x 0).1) (h1 : k = (x 1).1) :
    ix r k hr hk = x := by
  funext t
  have ht : t = (0 : Fin 2) ∨ t = (1 : Fin 2) := (by decide : ∀ t : Fin 2, t = 0 ∨ t = 1) t
  rcases ht with rfl | rfl
  · exact Fin.ext h0
  · exact Fin.ext h1

/-- Block `o` of the gathered array is device `o`'s shard. -/
theorem GX_at (i : S4096x4096.Idx) (o : Dev nD) (x : S512x4096.Idx) (h0 : (i 0).1 = 512 * o.1 + (x 0).1) (h1 : (i 1).1 = (x 1).1) :
    GX xs i = k0_pay1 (xs o) x := by
  have hx : (x 0).1 < 512 := (x 0).2
  unfold GX
  rw [ix_eta x _ _ (by omega) h1]
  rw [show (⟨(i 0).1 / 512, by have : (i 0).1 < 4096 := (i 0).2; simp only [nD]; omega⟩ : Dev nD) = o from
    Fin.ext (show (i 0).1 / 512 = o.1 by omega)]
/-- Block `o` of the result is that of device `o`'s shard. -/
theorem OUT_at (i : S4096x1024.Idx) (o : Dev nD) (x : S512x1024.Idx) (h0 : (i 0).1 = 512 * o.1 + (x 0).1) (h1 : (i 1).1 = (x 1).1) :
    OUT xs w s i = k0_pay4 s (k0_pay1 (xs o)) w x := by
  have hx : (x 0).1 < 512 := (x 0).2
  unfold OUT
  rw [ix_eta x _ _ (by omega) h1]
  rw [show (⟨(i 0).1 / 512, by have : (i 0).1 < 4096 := (i 0).2; simp only [nD]; omega⟩ : Dev nD) = o from
    Fin.ext (show (i 0).1 / 512 = o.1 by omega)]

/-- Rows of the result: block `o`. -/
def oblk (o : Dev nD) : Finset S4096x1024.Idx := Finset.univ.filter fun i => 512 * o.1 ≤ (i 0).1 ∧ (i 0).1 < 512 * o.1 + 512
theorem mem_oblk {o : Dev nD} {i : S4096x1024.Idx} : i ∈ oblk o ↔ 512 * o.1 ≤ (i 0).1 ∧ (i 0).1 < 512 * o.1 + 512 := by
  unfold oblk; rw [Finset.mem_filter]; exact ⟨fun h => h.2, fun h => ⟨Finset.mem_univ _, h⟩⟩
theorem unit_oblk {off : Fin S4096x1024.rank → ℕ} (inb : ∀ a, off a + S512x1024.size a ≤ S4096x1024.size a) {o : Dev nD}
    (hoff : off = ![512 * o.1, 0]) : (Rect.unit (s := S4096x1024) off S512x1024.size inb).set = oblk o := by
  subst hoff
  ext i
  rw [Rect.mem_set_unit, mem_oblk]
  have hi : (i 1).1 < 1024 := (i 1).2
  constructor
  · intro h; exact h 0
  · intro h k
    have hk : k = 0 ∨ k = 1 := by revert k; decide
    rcases hk with rfl | rfl
    · exact h
    · exact ⟨Nat.zero_le _, by show (i 1).1 < 0 + 1024; omega⟩

abbrev outL (c : Dev nD) : Loc nD τ sig := (c : Thread nD τ).loc cc0_stg3_0
/-- Elements of the result's buffer. -/
abbrev outP (c : Dev nD) (S : Finset S4096x1024.Idx) (f : S4096x1024.Idx → Elt F .f32) : sProp 𝕄 := outL c ↦[S]{fullShare} f
/-- Block `o` of the result's buffer, whatever it holds. -/
def outAny (c o : Dev nD) : sProp 𝕄 := iprop(∃ f, outP (F := F) c (oblk o) f)
/-- A whole buffer of the device. -/
abbrev bufP (c : Dev nD) (b : Ref sig .tc) (f : b.ty.Contents (Elt F)) : sProp 𝕄 := (c : Thread nD τ).loc b ↦{fullShare} f

/-- Load block `o` of the gathered array. -/
theorem run_load_gx {α : Type} {Q : α → sProp 𝕄} (o c : Dev nD) (q : PosShare TreeShare) {off : Fin 2 → ℕ}
    {inb : ∀ a, off a + S512x4096.size a ≤ S4096x4096.size a} (hoff : off = ![512 * o.1, 0]) {hl}
    {k : Vec F S512x4096 .fp8e4m3 → Prog (TpuEff nD τ sig (Elt F) Λ₀ .tc) α} :
    gxP c (blk o) q (GX xs)
      ⊢ iprop((gxP c (blk o) q (GX xs) -∗ run c (k (k0_pay1 (xs o))) Q)
        -∗ run c (.op (.load gxM (Rect.unit (s := S4096x4096) off S512x4096.size inb).toLoadRect hl) k) Q) := by
  have hset : (gxM.access (Rect.unit (s := S4096x4096) off S512x4096.size inb)).set = blk o := by
    show ((View.whole cc0_scratch0).slice _).set = _
    rw [View.set_slice_whole]
    exact unit_set inb (by rw [hoff]; rfl) (by rw [hoff]; rfl) rfl rfl
  have hval : (gxM.access (Rect.unit (s := S4096x4096) off S512x4096.size inb)).read (Elt F) (GX xs) = k0_pay1 (xs o) := by
    funext x
    refine (View.read_apply _ _).trans ?_
    refine GX_at xs _ o x ?_ ?_
    · subst hoff; exact Rect.emb_apply _ _ 0 |>.trans (by show 512 * o.1 + 1 * (x 0).1 = _; omega)
    · subst hoff; exact Rect.emb_apply _ _ 1 |>.trans (by show 0 + 1 * (x 1).1 = _; omega)
  iintro H Hk
  iapply (wp_load_rect (defs := defs₀ (F := F)) 𝒱₀ (c : Thread nD τ) none Set.univ (Q := Q) (m := gxM)
    (r := Rect.unit (s := S4096x4096) off S512x4096.size inb) (hl := hl) (k := k) (q := q) (f := GX xs) (S := blk o) hset.le) $$ H
  rw [hval]
  iexact Hk

/-- Load a block of it whose contents are not looked at: the whole part is at hand at some contents. -/
theorem run_load_gx_any {α : Type} {Q : α → sProp 𝕄} (o c : Dev nD) (f : S4096x4096.Idx → Elt F .fp8e4m3) {off : Fin 2 → ℕ}
    {inb : ∀ a, off a + S512x4096.size a ≤ S4096x4096.size a} (hoff : off = ![512 * o.1, 0]) {hl}
    {k : Vec F S512x4096 .fp8e4m3 → Prog (TpuEff nD τ sig (Elt F) Λ₀ .tc) α} :
    gxP c (blk o) fullShare f
      ⊢ iprop((∀ v, gxP c (blk o) fullShare f -∗ run c (k v) Q)
        -∗ run c (.op (.load gxM (Rect.unit (s := S4096x4096) off S512x4096.size inb).toLoadRect hl) k) Q) := by
  have hset : (gxM.access (Rect.unit (s := S4096x4096) off S512x4096.size inb)).set = blk o := by
    show ((View.whole cc0_scratch0).slice _).set = _
    rw [View.set_slice_whole]
    exact unit_set inb (by rw [hoff]; rfl) (by rw [hoff]; rfl) rfl rfl
  iintro H Hk
  iapply (wp_load_rect (defs := defs₀ (F := F)) 𝒱₀ (c : Thread nD τ) none Set.univ (Q := Q) (m := gxM)
    (r := Rect.unit (s := S4096x4096) off S512x4096.size inb) (hl := hl) (k := k) (q := fullShare) (f := f) (S := blk o) hset.le) $$ H
  iapply Hk

/-- Store the own shard into the gathered array. -/
theorem run_store_gx {α : Type} {Q : α → sProp 𝕄} (c : Dev nD) (f : S4096x4096.Idx → Elt F .fp8e4m3) {off : Fin 2 → ℕ}
    {inb : ∀ a, off a + S512x4096.size a ≤ S4096x4096.size a} (hoff : off = ![512 * c.1, 0]) {hx hm}
    {k : PUnit → Prog (TpuEff nD τ sig (Elt F) Λ₀ .tc) α} :
    gxP c (blk c) fullShare f
      ⊢ iprop((gxP c (blk c) fullShare (GX xs) -∗ run c (k ⟨⟩) Q)
        -∗ run c (.op (.store gxM (Rect.unit (s := S4096x4096) off S512x4096.size inb) (k0_pay1 (xs c)) Finset.univ hx hm) k) Q) := by
  have hset : (gxM.access (Rect.unit (s := S4096x4096) off S512x4096.size inb)).set = blk c := by
    show ((View.whole cc0_scratch0).slice _).set = _
    rw [View.set_slice_whole]
    exact unit_set inb (by rw [hoff]; rfl) (by rw [hoff]; rfl) rfl rfl
  have hval : (gxP c (blk c) fullShare ((gxM.access (Rect.unit (s := S4096x4096) off S512x4096.size inb)).write (Elt F) f (k0_pay1 (xs c)) Finset.univ) : sProp 𝕄)
      = gxP c (blk c) fullShare (GX xs) := by
    refine pointsTo_congr fun i hi => ?_
    rw [← hset] at hi
    obtain ⟨x, -, rfl⟩ := Finset.mem_map.mp hi
    refine (View.write_emb_of_mem _ _ (Finset.mem_univ x)).trans ?_
    refine (GX_at xs _ c x ?_ ?_).symm
    · subst hoff; exact Rect.emb_apply _ _ 0 |>.trans (by show 512 * c.1 + 1 * (x 0).1 = _; omega)
    · subst hoff; exact Rect.emb_apply _ _ 1 |>.trans (by show 0 + 1 * (x 1).1 = _; omega)
  iintro H Hk
  iapply (wp_store (defs := defs₀ (F := F)) 𝒱₀ (c : Thread nD τ) none Set.univ (Q := Q) (m := gxM)
    (r := Rect.unit (s := S4096x4096) off S512x4096.size inb) (w := k0_pay1 (xs c)) (Mk := Finset.univ) (hx := hx) (hm := hm) (k := k)
    (f := f) (S := blk c) ((View.setOn_subset_set _ _).trans hset.le)) $$ H
  iintro H
  iapply Hk
  iapply (Entails.of_eq hval)
  iexact H

/-- Load a block of the result's buffer, whatever it holds, -/
theorem run_load_out {α : Type} {Q : α → sProp 𝕄} (o c : Dev nD) {off : Fin 2 → ℕ}
    {inb : ∀ a, off a + S512x1024.size a ≤ S4096x1024.size a} (hoff : off = ![512 * o.1, 0]) {hl}
    {k : Vec F S512x1024 .f32 → Prog (TpuEff nD τ sig (Elt F) Λ₀ .tc) α} :
    outAny c o
      ⊢ iprop((∀ v, outAny c o -∗ run c (k v) Q)
        -∗ run c (.op (.load oM (Rect.unit (s := S4096x1024) off S512x1024.size inb).toLoadRect hl) k) Q) := by
  have hset : (oM.access (Rect.unit (s := S4096x1024) off S512x1024.size inb)).set = oblk o := by
    show ((View.whole cc0_stg3_0).slice _).set = _
    rw [View.set_slice_whole]
    exact unit_oblk inb hoff
  unfold outAny
  iintro ⟨%f, H⟩ Hk
  iapply (wp_load_rect (defs := defs₀ (F := F)) 𝒱₀ (c : Thread nD τ) none Set.univ (Q := Q) (m := oM)
    (r := Rect.unit (s := S4096x1024) off S512x1024.size inb) (hl := hl) (k := k) (q := fullShare) (f := f) (S := oblk o) hset.le) $$ H
  iintro H
  iapply Hk
  iexists f
  iexact H

/-- and store the block of the result there. -/
theorem run_store_out {α : Type} {Q : α → sProp 𝕄} (o c : Dev nD) {off : Fin 2 → ℕ}
    {inb : ∀ a, off a + S512x1024.size a ≤ S4096x1024.size a} (hoff : off = ![512 * o.1, 0]) {v : Vec F S512x1024 .f32}
    (hv : v = k0_pay4 s (k0_pay1 (xs o)) w) {hx hm}
    {k : PUnit → Prog (TpuEff nD τ sig (Elt F) Λ₀ .tc) α} :
    outAny c o
      ⊢ iprop((outP c (oblk o) (OUT xs w s) -∗ run c (k ⟨⟩) Q)
        -∗ run c (.op (.store oM (Rect.unit (s := S4096x1024) off S512x1024.size inb) v Finset.univ hx hm) k) Q) := by
  subst hv
  have hset : (oM.access (Rect.unit (s := S4096x1024) off S512x1024.size inb)).set = oblk o := by
    show ((View.whole cc0_stg3_0).slice _).set = _
    rw [View.set_slice_whole]
    exact unit_oblk inb hoff
  have hval : ∀ f, (outP c (oblk o) ((oM.access (Rect.unit (s := S4096x1024) off S512x1024.size inb)).write (Elt F) f (k0_pay4 s (k0_pay1 (xs o)) w) Finset.univ) : sProp 𝕄)
      = outP c (oblk o) (OUT xs w s) := by
    intro f
    refine pointsTo_congr fun i hi => ?_
    rw [← hset] at hi
    obtain ⟨x, -, rfl⟩ := Finset.mem_map.mp hi
    refine (View.write_emb_of_mem _ _ (Finset.mem_univ x)).trans ?_
    refine (OUT_at xs w s _ o x ?_ ?_).symm
    · subst hoff; exact Rect.emb_apply _ _ 0 |>.trans (by show 512 * o.1 + 1 * (x 0).1 = _; omega)
    · subst hoff; exact Rect.emb_apply _ _ 1 |>.trans (by show 0 + 1 * (x 1).1 = _; omega)
  unfold outAny
  iintro ⟨%f, H⟩ Hk
  iapply (wp_store (defs := defs₀ (F := F)) 𝒱₀ (c : Thread nD τ) none Set.univ (Q := Q) (m := oM)
    (r := Rect.unit (s := S4096x1024) off S512x1024.size inb) (w := k0_pay4 s (k0_pay1 (xs o)) w) (Mk := Finset.univ) (hx := hx) (hm := hm) (k := k)
    (f := f) (S := oblk o) ((View.setOn_subset_set _ _).trans hset.le)) $$ H
  iintro H
  iapply Hk
  iapply (Entails.of_eq (hval f))
  iexact H

/-- Load a whole buffer, -/
theorem run_load {α : Type} {Q : α → sProp 𝕄} (c : Dev nD) {cs : CoreSpace} {i : Fin (sig.nNear Kind.tc cs)} {hκ : sig.names Kind.tc cs i = true}
    {off : Fin (Ref.ty (⟨cs, i, hκ⟩ : Ref sig .tc)).shape.rank → ℕ} (hoff : off = fun _ => 0)
    {inb : ∀ a, off a + (Ref.ty (⟨cs, i, hκ⟩ : Ref sig .tc)).shape.size a ≤ (Ref.ty (⟨cs, i, hκ⟩ : Ref sig .tc)).shape.size a}
    (f : (Ref.ty (⟨cs, i, hκ⟩ : Ref sig .tc)).Contents (Elt F)) {hl}
    {k : (Ref.ty (⟨cs, i, hκ⟩ : Ref sig .tc)).Contents (Elt F) → Prog (TpuEff nD τ sig (Elt F) Λ₀ .tc) α} :
    bufP c ⟨cs, i, hκ⟩ f
      ⊢ iprop((bufP c ⟨cs, i, hκ⟩ f -∗ run c (k f) Q)
        -∗ run c (.op (.load (Memref.whole ⟨cs, i, hκ⟩ : Memref sig .tc cs _ _) (Rect.unit off _ inb).toLoadRect hl) k) Q) := by
  subst hoff
  exact wp_load_whole (defs := defs₀ (F := F)) 𝒱₀ (c : Thread nD τ) none Set.univ (Q := Q) (hl := hl) (k := k) (q := fullShare) (f := f)

/-- A store over the whole of the weight buffer. -/
theorem run_store_w8 {α : Type} {Q : α → sProp 𝕄} (c : Dev nD) (f v : Vec F S4096x1024 .fp8e4m3) {off : Fin 2 → ℕ}
    {inb : ∀ a, off a + S4096x1024.size a ≤ S4096x1024.size a} (hoff : off = fun _ => 0) {hx hm}
    {k : PUnit → Prog (TpuEff nD τ sig (Elt F) Λ₀ .tc) α} :
    bufP c cc0_scratch1 f
      ⊢ iprop((bufP c cc0_scratch1 v -∗ run c (k ⟨⟩) Q)
        -∗ run c (.op (.store w8M (Rect.unit (s := S4096x1024) off S4096x1024.size inb) v Finset.univ hx hm) k) Q) := by
  have hval : (w8M.access (Rect.unit (s := S4096x1024) off S4096x1024.size inb)).write (Elt F) f v Finset.univ = v := by
    funext i
    have he : i = (w8M.access (Rect.unit (s := S4096x1024) off S4096x1024.size inb)).emb i := by
      subst hoff
      funext a
      exact Fin.ext ((Rect.emb_apply _ _ a |>.trans (by show 0 + 1 * (i a).1 = _; omega)).symm)
    exact (congrArg _ he).trans ((View.write_emb_of_mem _ _ (Finset.mem_univ (i : S4096x1024.Idx))).trans rfl)
  iintro H Hk
  iapply (wp_store (defs := defs₀ (F := F)) 𝒱₀ (c : Thread nD τ) none Set.univ (Q := Q) (m := w8M)
    (r := Rect.unit (s := S4096x1024) off S4096x1024.size inb) (w := v) (Mk := Finset.univ) (hx := hx) (hm := hm) (k := k)
    (f := f) (S := Finset.univ) (Finset.subset_univ _)) $$ H
  iintro H
  iapply Hk
  iapply (Entails.of_eq (congrArg (fun g => bufP c cc0_scratch1 g) hval))
  iexact H

end Mem

end Cert.KernelIdeal.Gather
-- ==== Proof.KernelIdeal.Body.lean ====
/- The kernel's body, run once at a symbolic device. -/
module

public import proofs.«01_k».proof.Proof.KernelIdeal.Steps

@[expose] public section

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Where the printed addresses point -/

theorem dev1 : ∀ c : Dev nD, (⟨k0_dev1 c, k0_dev1_lt c⟩ : Dev nD) = lf c := by decide +kernel
theorem dev2 : ∀ c : Dev nD, (⟨k0_dev2 c, k0_dev2_lt c⟩ : Dev nD) = rt c := by decide +kernel
theorem dev3 : ∀ c : Dev nD, (⟨k0_dev3 c, k0_dev3_lt c⟩ : Dev nD) = pt c := by decide +kernel
theorem dev4 : ∀ c : Dev nD, (⟨k0_dev4 c, k0_dev4_lt c⟩ : Dev nD) = rt c := by decide +kernel
theorem dev5 : ∀ c : Dev nD, (⟨k0_dev5 c, k0_dev5_lt c⟩ : Dev nD) = lf c := by decide +kernel
theorem dev6 : ∀ c : Dev nD, (⟨k0_dev6 c, k0_dev6_lt c⟩ : Dev nD) = pt c := by decide +kernel
theorem dev7 : ∀ c : Dev nD, (⟨k0_dev7 c, k0_dev7_lt c⟩ : Dev nD) = rt c := by decide +kernel
theorem dev8 : ∀ c : Dev nD, (⟨k0_dev8 c, k0_dev8_lt c⟩ : Dev nD) = pt c := by decide +kernel
theorem dev9 : ∀ c : Dev nD, (⟨k0_dev9 c, k0_dev9_lt c⟩ : Dev nD) = lf c := by decide +kernel
theorem dev10 : ∀ c : Dev nD, (⟨k0_dev10 c, k0_dev10_lt c⟩ : Dev nD) = pt c := by decide +kernel
theorem dev11 : ∀ c : Dev nD, (⟨k0_dev11 c, k0_dev11_lt c⟩ : Dev nD) = rt c := by decide +kernel
theorem dev12 : ∀ c : Dev nD, (⟨k0_dev12 c, k0_dev12_lt c⟩ : Dev nD) = lf c := by decide +kernel
theorem dev13 : ∀ c : Dev nD, (⟨k0_dev13 c, k0_dev13_lt c⟩ : Dev nD) = pt c := by decide +kernel
theorem off1b : ∀ c : Dev nD, k0_off1 c = ![512 * (c).1, 0] := by decide +kernel
theorem off3b : ∀ c : Dev nD, k0_off3 c = ![512 * (c).1, 0] := by decide +kernel
theorem off9b : ∀ c : Dev nD, k0_off9 c = ![512 * (lf c).1, 0] := by decide +kernel
theorem off10b : ∀ c : Dev nD, k0_off10 c = ![512 * (lf c).1, 0] := by decide +kernel
theorem off11r : ∀ c : Dev nD, k0_off11 c 1#32 = ![512 * (rt c).1, 0] := by decide +kernel
theorem off11c : ∀ c : Dev nD, k0_off11 c 2#32 = ![512 * (cn c).1, 0] := by decide +kernel
theorem off12r : ∀ c : Dev nD, k0_off12 c 1#32 = ![512 * (rt c).1, 0] := by decide +kernel
theorem off12c : ∀ c : Dev nD, k0_off12 c 2#32 = ![512 * (cn c).1, 0] := by decide +kernel
theorem off13b : ∀ c : Dev nD, k0_off13 c = ![512 * (pt c).1, 0] := by decide +kernel
theorem off14b : ∀ c : Dev nD, k0_off14 c = ![512 * (pt c).1, 0] := by decide +kernel
theorem off16b : ∀ c : Dev nD, k0_off16 c = ![512 * (pt (lf c)).1, 0] := by decide +kernel
theorem off17b : ∀ c : Dev nD, k0_off17 c = ![512 * (pt (lf c)).1, 0] := by decide +kernel
theorem off18r : ∀ c : Dev nD, k0_off18 c 1#32 = ![512 * (pt (rt c)).1, 0] := by decide +kernel
theorem off18x : ∀ c : Dev nD, k0_off18 c 2#32 = ![512 * (pt (cn c)).1, 0] := by decide +kernel
theorem off19r : ∀ c : Dev nD, k0_off19 c 1#32 = ![512 * (pt (rt c)).1, 0] := by decide +kernel
theorem off19x : ∀ c : Dev nD, k0_off19 c 2#32 = ![512 * (pt (cn c)).1, 0] := by decide +kernel
theorem soff0 : ∀ c : Dev nD, k0_off2 c = ![512 * (own 0 c).1 + 64 * lo 0, 0] := by decide +kernel
theorem soff1 : ∀ c : Dev nD, k0_off4 c = ![512 * (own 1 c).1 + 64 * lo 1, 0] := by decide +kernel
theorem soff2 : ∀ c : Dev nD, k0_off8 c 0#32 = ![512 * (own 2 c).1 + 64 * lo 2, 0] := by decide +kernel
theorem soff3 : ∀ c : Dev nD, k0_off2 c = ![512 * (own 3 c).1 + 64 * lo 3, 0] := by decide +kernel
theorem soff4 : ∀ c : Dev nD, k0_off6 c = ![512 * (own 4 c).1 + 64 * lo 4, 0] := by decide +kernel
theorem soff5 : ∀ c : Dev nD, k0_off8 c 64#32 = ![512 * (own 5 c).1 + 64 * lo 5, 0] := by decide +kernel
theorem soff6 : ∀ c : Dev nD, k0_off2 c = ![512 * (own 6 c).1 + 64 * lo 6, 0] := by decide +kernel
theorem soff7 : ∀ c : Dev nD, k0_off5 c = ![512 * (own 7 c).1 + 64 * lo 7, 0] := by decide +kernel
theorem soff8 : ∀ c : Dev nD, k0_off7 c = ![512 * (own 8 c).1 + 64 * lo 8, 0] := by decide +kernel
theorem soff9 : ∀ c : Dev nD, k0_off15 c = ![512 * (own 9 c).1 + 64 * lo 9, 0] := by decide +kernel

/-! ## Sharing a block out among the transfers that read it -/

section Share

variable (xs : Dev nD → Vec F S512x4096 .fp8e4m3)

theorem halves (c : Dev nD) (S : Finset S4096x4096.Idx) (q : PosShare TreeShare) :
    (gxP c S q (GX xs) : sProp 𝕄) ⊣⊢ iprop(gxP c S q.left (GX xs) ∗ gxP c S q.right (GX xs)) :=
  pointsTo_share (PosShare.mem_left_op_right q)

/-- What is left of a block beside the elements a transfer reads. -/
abbrev rest (j : Fin 10) (o c : Dev nD) : sProp 𝕄 := gxP c (blk o \ sset j c) (qs j) (GX xs)
/-- The elements it reads. -/
abbrev lent (j : Fin 10) (c : Dev nD) : sProp 𝕄 := gxP c (sset j c) (qs j) (GX xs)
/-- A block at a share. -/
abbrev G (c o : Dev nD) (q : PosShare TreeShare) : sProp 𝕄 := gxP c (blk o) q (GX xs)

theorem carve (j : Fin 10) (o c : Dev nD) (h : sset j c ⊆ blk o) :
    G xs c o (qs j) ⊣⊢ iprop(lent xs j c ∗ rest xs j o c) := pointsTo_split_subset h

theorem sset_sub (j : Fin 10) (c o : Dev nD) (h : own j c = o) : sset j c ⊆ blk o := by
  subst h
  have hh : ∀ j, hi j ≤ 8 := by decide
  exact rws_subset (by omega) (by have := hh j; omega)

/-- The own block: three whole copies of it travel. -/
theorem share3 (c : Dev nD) :
    G xs c c fullShare ⊣⊢ iprop(G xs c c fullShare.right.right ∗ lent xs 0 c ∗ lent xs 3 c ∗ lent xs 6 c) := by
  constructor
  · iintro H
    ihave H := (halves xs c (blk c) fullShare).1 $$ H
    icases H with ⟨HL, HR⟩
    ihave HL := (halves xs c (blk c) fullShare.left).1 $$ HL
    ihave HR := (halves xs c (blk c) fullShare.right).1 $$ HR
    icases HL with ⟨H0, H3⟩
    icases HR with ⟨H6, HR⟩
    isplitl [HR]; · iexact HR
    isplitl [H0]; · iexact H0
    isplitl [H3]; · iexact H3
    iexact H6
  · iintro ⟨HR, H0, H3, H6⟩
    iapply (halves xs c (blk c) fullShare).2
    isplitl [H0 H3]
    · iapply (halves xs c (blk c) fullShare.left).2
      isplitl [H0]; · iexact H0
      iexact H3
    · iapply (halves xs c (blk c) fullShare.right).2
      isplitl [H6]; · iexact H6
      iexact HR

/-- A neighbour's block: parts of it go on to two others. -/
theorem share2 (j j' : Fin 10) (o c : Dev nD) (hj : own j c = o) (hj' : own j' c = o) (hq : qs j = fullShare.left.left) (hq' : qs j' = fullShare.left.right) :
    G xs c o fullShare ⊣⊢ iprop(G xs c o fullShare.right ∗ (lent xs j c ∗ rest xs j o c) ∗ (lent xs j' c ∗ rest xs j' o c)) := by
  constructor
  · iintro H
    ihave H := (halves xs c (blk o) fullShare).1 $$ H
    icases H with ⟨HL, HR⟩
    ihave HL := (halves xs c (blk o) fullShare.left).1 $$ HL
    icases HL with ⟨H0, H3⟩
    isplitl [HR]; · iexact HR
    isplitl [H0]
    · iapply (carve xs j o c (sset_sub j c o hj)).1
      rw [hq]; iexact H0
    · iapply (carve xs j' o c (sset_sub j' c o hj')).1
      rw [hq']; iexact H3
  · iintro ⟨HR, H0, H3⟩
    ihave H0 := (carve xs j o c (sset_sub j c o hj)).2 $$ H0
    ihave H3 := (carve xs j' o c (sset_sub j' c o hj')).2 $$ H3
    iapply (halves xs c (blk o) fullShare).2
    isplitr [HR]
    · iapply (halves xs c (blk o) fullShare.left).2
      isplitl [H0]
      · rw [← hq]; iexact H0
      · rw [← hq']; iexact H3
    · iexact HR

/-- The corner's block goes on to one. -/
theorem share1 (c : Dev nD) : G xs c (cn c) fullShare ⊣⊢ iprop(G xs c (cn c) fullShare.right ∗ lent xs 9 c) := by
  constructor
  · iintro H
    ihave H := (halves xs c (blk (cn c)) fullShare).1 $$ H
    icases H with ⟨HL, HR⟩
    isplitl [HR]; · iexact HR
    iexact HL
  · iintro ⟨HR, HL⟩
    iapply (halves xs c (blk (cn c)) fullShare).2
    isplitl [HL]; · iexact HL
    iexact HR

/-- Two windows that make up a block. -/
theorem join (o c : Dev nD) (q : PosShare TreeShare) (j j' : Fin 10) (h : own j (src j c) = o) (h' : own j' (src j' c) = o)
    (hlo : lo j = 0) (hmid : hi j = lo j') (hhi : hi j' = 8) :
    iprop(gxP c (sset j (src j c)) q (GX xs) ∗ gxP c (sset j' (src j' c)) q (GX xs)) ⊢ G xs c o q := by
  have hm : hi j ≤ 8 := (by decide : ∀ j, hi j ≤ 8) j
  have hd : Disjoint (sset j (src j c)) (sset j' (src j' c)) := rws_disjoint (.inl (by rw [h, h', hmid]))
  have hu : blk o = sset j (src j c) ∪ sset j' (src j' c) := by
    ext i
    rw [Finset.mem_union]; unfold sset blk; rw [mem_rws, mem_rws, mem_rws, h, h', hlo, hhi, ← hmid]; omega
  unfold G
  rw [hu]
  exact (pointsTo_union hd).2

end Share

/-- What is still owed, whatever has been waited for. -/
abbrev Ow (l : List (Fin 10)) (c : Dev nD) : sProp 𝕄 := iprop(∃ W, owes (c : Thread nD τ) (owe l c) W)
/-- The right to wait for the own transfer `j` to be done, once it is sent. -/
abbrev sentC (j : Fin 10) (c : Dev nD) : sProp 𝕄 := cred (tallyAt (sendCell j c) () (N j))
/-- A neighbour's barrier cell, to be signalled once. -/
def Sg (xs : Dev nD → Vec F S512x4096 .fp8e4m3) (K : GSem nD τ sig → ℕ) (d : Fin 3) (c : Dev nD) : sProp 𝕄 :=
  iprop(cellInv ER (sched xs) (K (barCell ((nbE d).symm c))) (barCell ((nbE d).symm c)) ∗ reached ER (barCell ((nbE d).symm c)) 0
        ∗ dutyTok ER (barCell ((nbE d).symm c)) 0 d)
/-- The own barrier cell. -/
def Br (xs : Dev nD → Vec F S512x4096 .fp8e4m3) (K : GSem nD τ sig → ℕ) (c : Dev nD) : sProp 𝕄 :=
  iprop(cellInv ER (sched xs) (K (barCell c)) (barCell c) ∗ atPos ER (barCell c) 0 ∅ 0 ∗ cred (tallyAt (barCell c) () 3))

theorem signal_bind {β : Type} (d : Dev nD) (s : Sem sig) (n : BitVec 32) (k : PUnit → Prog (TpuEff nD τ sig (Elt F) Λ₀ .tc) β) :
    (semSignalWord d s n >>= k) = .op (.semSignal (d, .tc) s n.toInt) k := rfl
theorem semWait_bind {β : Type} (s : Sem sig) (n : BitVec 32) (k : PUnit → Prog (TpuEff nD τ sig (Elt F) Λ₀ .tc) β) :
    (semWaitWord s n >>= k) = .op (.semWait s n.toInt) k := rfl
theorem smem_bind {β : Type} {s : Shape} {e : EltTy} (m : Memref sig .tc .smem s e) (r : Rect s) (h1 : r.shape.numel = 1) (hp : e.packing = 1)
    (k : Elt F e → Prog (TpuEff nD τ sig (Elt F) Λ₀ .tc) β) :
    (smemLoad m r h1 hp >>= k) = .op (.load m r (View.loadsAt_rect (View.loads_smem_one hp h1)))
      fun f => k (f (Shape.Idx.first (h1.symm ▸ Nat.one_pos))) := rfl

/-! ## The parts -/

section Parts

variable (xs : Dev nD → Vec F S512x4096 .fp8e4m3) (K : GSem nD τ sig → ℕ)

/-- The scale a device stages. -/
abbrev scal (f : Vec F S1x1 .f32) : Elt F .f32 := f (Shape.Idx.first (numel1_S1x1.symm ▸ Nat.one_pos))

theorem zero2 : (![0, 0] : Fin 2 → ℕ) = fun _ => 0 := by decide

theorem own0 : ∀ c : Dev nD, own 0 (src 0 c) = lf c := by decide +kernel
theorem own3 : ∀ c : Dev nD, own 3 (src 3 c) = rt c := by decide +kernel
theorem own6 : ∀ c : Dev nD, own 6 (src 6 c) = pt c := by decide +kernel
theorem own1 : ∀ c : Dev nD, own 1 (src 1 c) = cn c := by decide +kernel
theorem own4 : ∀ c : Dev nD, own 4 (src 4 c) = cn c := by decide +kernel
theorem own2 : ∀ c : Dev nD, own 2 (src 2 c) = pt (lf c) := by decide +kernel
theorem own7 : ∀ c : Dev nD, own 7 (src 7 c) = pt (lf c) := by decide +kernel
theorem own5 : ∀ c : Dev nD, own 5 (src 5 c) = pt (rt c) := by decide +kernel
theorem own8 : ∀ c : Dev nD, own 8 (src 8 c) = pt (rt c) := by decide +kernel
theorem own9 : ∀ c : Dev nD, own 9 (src 9 c) = pt (cn c) := by decide +kernel
theorem whole9 (c : Dev nD) : (gxP c (sset 9 (src 9 c)) fullShare (GX xs) : sProp 𝕄) = G xs c (pt (cn c)) fullShare := by
  unfold sset; rw [own9]; rfl
theorem whole0 (c : Dev nD) : (gxP c (sset 0 (src 0 c)) fullShare (GX xs) : sProp 𝕄) = G xs c (lf c) fullShare := by
  unfold sset; rw [own0]; rfl
theorem whole3 (c : Dev nD) : (gxP c (sset 3 (src 3 c)) fullShare (GX xs) : sProp 𝕄) = G xs c (rt c) fullShare := by
  unfold sset; rw [own3]; rfl
theorem whole6 (c : Dev nD) : (gxP c (sset 6 (src 6 c)) fullShare (GX xs) : sProp 𝕄) = G xs c (pt c) fullShare := by
  unfold sset; rw [own6]; rfl

theorem part1 (c : Dev nD) (Kt : _ → sProp 𝕄) :
    iprop(∀ v2 v3 v4 v9 v14 v19 v24 v30 v31 c1, Kt ⟨c, v2, v3, v4, v9, v14, v19, v24, v30, v31, c1⟩)
      ⊢ run c (k0_part1 xM (Memref.isWhole_whole _) wM (Memref.isWhole_whole _) sM (Memref.isWhole_whole _) oM (Memref.isWhole_whole _) gxM (Memref.isWhole_whole _) w8M (Memref.isWhole_whole _) cc0_scratch2 cc0_scratch3 cc0_scratch4 cc0_scratch5 cc0_scratch6 cc0_scratch7) Kt := by
  rw [k0_part1_eq_skeleton]; unfold k0_part1_skel
  simp only [lift_bind, pure_eq, run, wp_deviceId]
  iintro Hk
  iapply (run_ret c _ Kt)
  iapply Hk

set_option maxHeartbeats 1600000 in
theorem part2 (c : Dev nD) (f2 : Vec F S1x1 .f32) (f : S4096x4096.Idx → Elt F .fp8e4m3) (W : Waits sig Unit) (v2 v3 v4 v9 v14 v24 v31 c1 : BitVec 32) (Kt : _ → sProp 𝕄) :
    iprop((Br xs K c ∗ Sg xs K 0 c ∗ Sg xs K 1 c ∗ Sg xs K 2 c ∗ barPay 0 ((nbE 0).symm c) ∗ barPay 1 ((nbE 1).symm c) ∗ barPay 2 ((nbE 2).symm c) ∗ levAts L lv ∗ bufP c cc0_stg2_0 f2 ∗ bufP c cc0_stg0_0 (xs c) ∗ gxP c (blk c) fullShare f ∗ owes (c : Thread nD τ) (O₀ c) W) ∗ (∀ v36 v42 v59, (barPay 0 c ∗ barPay 1 c ∗ barPay 2 c ∗ semVal (barCell c) 0 ∗ bufP c cc0_stg2_0 f2 ∗ bufP c cc0_stg0_0 (xs c) ∗ G xs c (c) fullShare ∗ Ow order c) -∗ Kt (⟨v36, v42, scal f2, v59⟩)))
      ⊢ run c (k0_part2 xM (Memref.isWhole_whole _) wM (Memref.isWhole_whole _) sM (Memref.isWhole_whole _) oM (Memref.isWhole_whole _) gxM (Memref.isWhole_whole _) w8M (Memref.isWhole_whole _) cc0_scratch2 cc0_scratch3 cc0_scratch4 cc0_scratch5 cc0_scratch6 cc0_scratch7 c v2 v3 v4 v9 v14 v24 v31 c1) Kt := by
  rw [k0_part2_eq_skeleton]; unfold k0_part2_skel
  simp only [lift_bind, signal_bind, semWait_bind, smem_bind, pure_eq, ret_bind]
  iintro ⟨⟨HB, HS0, HS1, HS2, HP0, HP1, HP2, #Hlev, Hs, Hx, Hg, HO⟩, Hk⟩
  iapply (run_signal xs K 0 c (dev1 c) ((owe order c + barUnit 2 c) + barUnit 1 c) (W := W)) $$ [HS0 HP0 HO]
  · unfold Sg
    icases HS0 with ⟨Ha, Hb, Hc⟩
    isplitl [Ha]; · iexact Ha
    isplitl [Hb]; · iexact Hb
    isplitl [Hc]; · iexact Hc
    isplitl [HP0]; · iexact HP0
    iexact HO
  iintro HO
  iapply (run_signal xs K 1 c (dev2 c) (owe order c + barUnit 2 c) (W := W)) $$ [HS1 HP1 HO]
  · unfold Sg
    icases HS1 with ⟨Ha, Hb, Hc⟩
    isplitl [Ha]; · iexact Ha
    isplitl [Hb]; · iexact Hb
    isplitl [Hc]; · iexact Hc
    isplitl [HP1]; · iexact HP1
    iexact HO
  iintro HO
  iapply (run_signal xs K 2 c (dev3 c) (owe order c) (W := W)) $$ [HS2 HP2 HO]
  · unfold Sg
    icases HS2 with ⟨Ha, Hb, Hc⟩
    isplitl [Ha]; · iexact Ha
    isplitl [Hb]; · iexact Hb
    isplitl [Hc]; · iexact Hc
    isplitl [HP2]; · iexact HP2
    iexact HO
  iintro HO
  iapply (run_barrier xs K c order (by decide) (W := W)) $$ [HB HO]
  · unfold Br
    icases HB with ⟨Ha, Hb, Hc⟩
    isplitl [Ha]; · iexact Ha
    isplitl [Hb]; · iexact Hb
    isplitl [Hc]; · iexact Hc
    isplitr; · iexact Hlev
    iexact HO
  iintro ⟨HQ0, HQ1, HQ2, HVb, HO⟩
  iapply (run_load c zero2 f2) $$ Hs
  iintro Hs
  iapply (run_load c zero2 (xs c)) $$ Hx
  iintro Hx
  iapply (run_load_gx_any c c f (off1b c)) $$ Hg
  iintro %_ Hg
  iapply (run_store_gx xs c f (off1b c)) $$ Hg
  iintro Hg
  iapply (run_ret c _ Kt)
  iapply Hk
  isplitl [HQ0]; · iexact HQ0
  isplitl [HQ1]; · iexact HQ1
  isplitl [HQ2]; · iexact HQ2
  isplitl [HVb]; · iexact HVb
  isplitl [Hs]; · iexact Hs
  isplitl [Hx]; · iexact Hx
  isplitl [Hg]; · iexact Hg
  iexact HO

set_option maxHeartbeats 1600000 in
theorem part3 (c : Dev nD) (w : Vec F S4096x1024 .fp8e4m3) (v2 v9 v14 v24 v59 : BitVec 32) (Kt : _ → sProp 𝕄) :
    iprop((Xf xs K 0 c ∗ Xf xs K 3 c ∗ Xf xs K 6 c ∗ lent xs 0 c ∗ lent xs 3 c ∗ lent xs 6 c ∗ winPay 0 c ∗ winPay 3 c ∗ winPay 6 c ∗ Ow order c ∗ bufP c cc0_stg1_0 w) ∗ ((sentC 0 c ∗ sentC 3 c ∗ sentC 6 c ∗ bufP c cc0_stg1_0 w ∗ Ow [1, 7, 4, 8, 2, 5, 9] c) -∗ Kt (k0_pay2 w)))
      ⊢ run c (k0_part3 xM (Memref.isWhole_whole _) wM (Memref.isWhole_whole _) sM (Memref.isWhole_whole _) oM (Memref.isWhole_whole _) gxM (Memref.isWhole_whole _) w8M (Memref.isWhole_whole _) cc0_scratch2 cc0_scratch3 cc0_scratch4 cc0_scratch5 cc0_scratch6 cc0_scratch7 c v2 v9 v14 v24 v59) Kt := by
  rw [k0_part3_eq_skeleton]; unfold k0_part3_skel
  simp only [lift_bind, signal_bind, semWait_bind, smem_bind, pure_eq, ret_bind]
  iintro ⟨⟨HX0, HX3, HX6, HL0, HL3, HL6, HW0, HW3, HW6, HO, Hw⟩, Hk⟩
  icases HO with ⟨%W0, HO⟩
  iapply (run_send xs K 0 c (sz := S512x4096.size) (off := k0_off2 c) rfl rfl (dev4 c) (soff0 c) rfl rfl rfl [3, 6, 1, 7, 4, 8, 2, 5, 9] (W := W0)) $$ [HX0 HL0 HW0 HO]
  · isplitl [HX0]; · iexact HX0
    isplitl [HL0]; · iexact HL0
    isplitl [HW0]; · iexact HW0
    iexact HO
  iintro ⟨HC0, HO⟩
  ihave HO := (show iprop(owes (c : Thread nD τ) (owe [3, 6, 1, 7, 4, 8, 2, 5, 9] c) W0) ⊢ Ow [3, 6, 1, 7, 4, 8, 2, 5, 9] c from exists_intro _) $$ HO
  icases HO with ⟨%W3, HO⟩
  iapply (run_send xs K 3 c (sz := S512x4096.size) (off := k0_off2 c) rfl rfl (dev5 c) (soff3 c) rfl rfl rfl [6, 1, 7, 4, 8, 2, 5, 9] (W := W3)) $$ [HX3 HL3 HW3 HO]
  · isplitl [HX3]; · iexact HX3
    isplitl [HL3]; · iexact HL3
    isplitl [HW3]; · iexact HW3
    iexact HO
  iintro ⟨HC3, HO⟩
  ihave HO := (show iprop(owes (c : Thread nD τ) (owe [6, 1, 7, 4, 8, 2, 5, 9] c) W3) ⊢ Ow [6, 1, 7, 4, 8, 2, 5, 9] c from exists_intro _) $$ HO
  icases HO with ⟨%W6, HO⟩
  iapply (run_send xs K 6 c (sz := S512x4096.size) (off := k0_off2 c) rfl rfl (dev6 c) (soff6 c) rfl rfl rfl [1, 7, 4, 8, 2, 5, 9] (W := W6)) $$ [HX6 HL6 HW6 HO]
  · isplitl [HX6]; · iexact HX6
    isplitl [HL6]; · iexact HL6
    isplitl [HW6]; · iexact HW6
    iexact HO
  iintro ⟨HC6, HO⟩
  ihave HO := (show iprop(owes (c : Thread nD τ) (owe [1, 7, 4, 8, 2, 5, 9] c) W6) ⊢ Ow [1, 7, 4, 8, 2, 5, 9] c from exists_intro _) $$ HO
  iapply (run_load c zero2 w) $$ Hw
  iintro Hw
  iapply (run_ret c _ Kt)
  iapply Hk
  isplitl [HC0]; · iexact HC0
  isplitl [HC3]; · iexact HC3
  isplitl [HC6]; · iexact HC6
  isplitl [Hw]; · iexact Hw
  iexact HO

set_option maxHeartbeats 1600000 in
theorem part4 (c : Dev nD) (s : Elt F .f32) (w0 : Vec F S4096x1024 .fp8e4m3) (w' : Vec F S4096x1024 .fp8e4m3) (v90 : FVec F S4096x1024 .fp8e4m3) (hw : k0_pay3 v90 = w') (v2 v9 v14 : BitVec 32) (Kt : _ → sProp 𝕄) :
    iprop((bufP c cc0_scratch1 w0 ∗ G xs c (c) fullShare.right.right ∗ outAny c (c) ∗ Rc xs K 0 c ∗ levAts L lv ∗ Ow [1, 7, 4, 8, 2, 5, 9] c) ∗ ((bufP c cc0_scratch1 w' ∗ G xs c (c) fullShare.right.right ∗ outP c (oblk (c)) (OUT xs w' s) ∗ gxP c (sset 0 (src 0 c)) fullShare (GX xs) ∗ semVal (recvCell 0 c) 0 ∗ Ow [1, 7, 4, 8, 2, 5, 9] c) -∗ Kt (⟨⟩)))
      ⊢ run c (k0_part4 xM (Memref.isWhole_whole _) wM (Memref.isWhole_whole _) sM (Memref.isWhole_whole _) oM (Memref.isWhole_whole _) gxM (Memref.isWhole_whole _) w8M (Memref.isWhole_whole _) cc0_scratch2 cc0_scratch3 cc0_scratch4 cc0_scratch5 cc0_scratch6 cc0_scratch7 c v2 v9 v14 s v90) Kt := by
  rw [k0_part4_eq_skeleton]; unfold k0_part4_skel
  simp only [lift_bind, signal_bind, semWait_bind, smem_bind, pure_eq, ret_bind, hw]
  iintro ⟨⟨Hw8, Hg, Ho, HR0, #Hlev, HO⟩, Hk⟩
  iapply (run_load c zero2 w0) $$ Hw8
  iintro Hw8
  iapply (run_store_w8 c w0 w' zero2) $$ Hw8
  iintro Hw8
  iapply (run_load_gx xs (c) c (fullShare.right.right) (off1b c)) $$ Hg
  iintro Hg
  iapply (run_load c zero2 w') $$ Hw8
  iintro Hw8
  iapply (run_load_out (c) c (off3b c)) $$ Ho
  iintro %_ Ho
  iapply (run_store_out xs w' s (c) c (off3b c) (rfl)) $$ Ho
  iintro Ho
  icases HO with ⟨%V0, HO⟩
  iapply (run_recv xs K 0 c (sz := S512x4096.size) rfl rfl [1, 7, 4, 8, 2, 5, 9] (by decide) (W := V0)) $$ [HR0 HO]
  · isplitl [HR0]; · iexact HR0
    isplitr; · iexact Hlev
    iexact HO
  iintro ⟨HG0, HV0, HO⟩
  iapply (run_ret c _ Kt)
  iapply Hk
  isplitl [Hw8]; · iexact Hw8
  isplitl [Hg]; · iexact Hg
  isplitl [Ho]; · iexact Ho
  isplitl [HG0]; · iexact HG0
  isplitl [HV0]; · iexact HV0
  iexact HO

set_option maxHeartbeats 1600000 in
theorem part5 (c : Dev nD) (v9 v14 v24 : BitVec 32) (Kt : _ → sProp 𝕄) :
    iprop((Xf xs K 1 c ∗ Xf xs K 7 c ∗ Xf xs K 4 c ∗ lent xs 1 c ∗ lent xs 7 c ∗ winPay 1 c ∗ winPay 7 c ∗ winPay 4 c ∗ Rc xs K 3 c ∗ levAts L lv ∗ Ow [1, 7, 4, 8, 2, 5, 9] c) ∗ (∀ v152, (sentC 1 c ∗ sentC 7 c ∗ sentC 4 c ∗ G xs c (rt c) fullShare.right ∗ rest xs 4 (rt c) c ∗ lent xs 8 c ∗ rest xs 8 (rt c) c ∗ semVal (recvCell 3 c) 0 ∗ Ow [8, 2, 5, 9] c) -∗ Kt (v152)))
      ⊢ run c (k0_part5 xM (Memref.isWhole_whole _) wM (Memref.isWhole_whole _) sM (Memref.isWhole_whole _) oM (Memref.isWhole_whole _) gxM (Memref.isWhole_whole _) w8M (Memref.isWhole_whole _) cc0_scratch2 cc0_scratch3 cc0_scratch4 cc0_scratch5 cc0_scratch6 cc0_scratch7 c v9 v14 v24) Kt := by
  rw [k0_part5_eq_skeleton]; unfold k0_part5_skel
  simp only [lift_bind, signal_bind, semWait_bind, smem_bind, pure_eq, ret_bind]
  iintro ⟨⟨HX1, HX7, HX4, HL1, HL7, HW1, HW7, HW4, HR3, #Hlev, HO⟩, Hk⟩
  icases HO with ⟨%W1, HO⟩
  iapply (run_send xs K 1 c (sz := S256x4096.size) (off := k0_off4 c) rfl rfl (dev7 c) (soff1 c) rfl rfl rfl [7, 4, 8, 2, 5, 9] (W := W1)) $$ [HX1 HL1 HW1 HO]
  · isplitl [HX1]; · iexact HX1
    isplitl [HL1]; · iexact HL1
    isplitl [HW1]; · iexact HW1
    iexact HO
  iintro ⟨HC1, HO⟩
  ihave HO := (show iprop(owes (c : Thread nD τ) (owe [7, 4, 8, 2, 5, 9] c) W1) ⊢ Ow [7, 4, 8, 2, 5, 9] c from exists_intro _) $$ HO
  icases HO with ⟨%W7, HO⟩
  iapply (run_send xs K 7 c (sz := S64x4096.size) (off := k0_off5 c) rfl rfl (dev8 c) (soff7 c) rfl rfl rfl [4, 8, 2, 5, 9] (W := W7)) $$ [HX7 HL7 HW7 HO]
  · isplitl [HX7]; · iexact HX7
    isplitl [HL7]; · iexact HL7
    isplitl [HW7]; · iexact HW7
    iexact HO
  iintro ⟨HC7, HO⟩
  ihave HO := (show iprop(owes (c : Thread nD τ) (owe [4, 8, 2, 5, 9] c) W7) ⊢ Ow [4, 8, 2, 5, 9] c from exists_intro _) $$ HO
  icases HO with ⟨%V3, HO⟩
  iapply (run_recv xs K 3 c (sz := S512x4096.size) rfl rfl [4, 8, 2, 5, 9] (by decide) (W := V3)) $$ [HR3 HO]
  · isplitl [HR3]; · iexact HR3
    isplitr; · iexact Hlev
    iexact HO
  iintro ⟨HG3, HV3, HO⟩
  ihave HG3 := (Entails.of_eq (whole3 xs c)) $$ HG3
  ihave HG3 := (share2 xs 4 8 (rt c) c rfl rfl rfl rfl).1 $$ HG3
  icases HG3 with ⟨HG3, ⟨HL4, HT4⟩, HL8, HT8⟩
  icases HO with ⟨%W4, HO⟩
  iapply (run_send xs K 4 c (sz := S256x4096.size) (off := k0_off6 c) rfl rfl (dev9 c) (soff4 c) rfl rfl rfl [8, 2, 5, 9] (W := W4)) $$ [HX4 HL4 HW4 HO]
  · isplitl [HX4]; · iexact HX4
    isplitl [HL4]; · iexact HL4
    isplitl [HW4]; · iexact HW4
    iexact HO
  iintro ⟨HC4, HO⟩
  ihave HO := (show iprop(owes (c : Thread nD τ) (owe [8, 2, 5, 9] c) W4) ⊢ Ow [8, 2, 5, 9] c from exists_intro _) $$ HO
  iapply (run_ret c _ Kt)
  iapply Hk
  isplitl [HC1]; · iexact HC1
  isplitl [HC7]; · iexact HC7
  isplitl [HC4]; · iexact HC4
  isplitl [HG3]; · iexact HG3
  isplitl [HT4]; · iexact HT4
  isplitl [HL8]; · iexact HL8
  isplitl [HT8]; · iexact HT8
  isplitl [HV3]; · iexact HV3
  iexact HO

set_option maxHeartbeats 1600000 in
theorem part6 (c : Dev nD) (v9 v14 v24 v152 : BitVec 32) (Kt : _ → sProp 𝕄) :
    iprop((Xf xs K 8 c ∗ Xf xs K 2 c ∗ lent xs 8 c ∗ winPay 8 c ∗ winPay 2 c ∗ Rc xs K 6 c ∗ levAts L lv ∗ Ow [8, 2, 5, 9] c) ∗ ((sentC 8 c ∗ sentC 2 c ∗ G xs c (pt c) fullShare.right ∗ rest xs 2 (pt c) c ∗ lent xs 5 c ∗ rest xs 5 (pt c) c ∗ semVal (recvCell 6 c) 0 ∗ Ow [5, 9] c) -∗ Kt (⟨⟩)))
      ⊢ run c (k0_part6 xM (Memref.isWhole_whole _) wM (Memref.isWhole_whole _) sM (Memref.isWhole_whole _) oM (Memref.isWhole_whole _) gxM (Memref.isWhole_whole _) w8M (Memref.isWhole_whole _) cc0_scratch2 cc0_scratch3 cc0_scratch4 cc0_scratch5 cc0_scratch6 cc0_scratch7 c v9 v14 v24 v152) Kt := by
  rw [k0_part6_eq_skeleton]; unfold k0_part6_skel
  simp only [lift_bind, signal_bind, semWait_bind, smem_bind, pure_eq, ret_bind]
  iintro ⟨⟨HX8, HX2, HL8, HW8, HW2, HR6, #Hlev, HO⟩, Hk⟩
  icases HO with ⟨%W8, HO⟩
  iapply (run_send xs K 8 c (sz := S64x4096.size) (off := k0_off7 c) rfl rfl (dev10 c) (soff8 c) rfl rfl rfl [2, 5, 9] (W := W8)) $$ [HX8 HL8 HW8 HO]
  · isplitl [HX8]; · iexact HX8
    isplitl [HL8]; · iexact HL8
    isplitl [HW8]; · iexact HW8
    iexact HO
  iintro ⟨HC8, HO⟩
  ihave HO := (show iprop(owes (c : Thread nD τ) (owe [2, 5, 9] c) W8) ⊢ Ow [2, 5, 9] c from exists_intro _) $$ HO
  icases HO with ⟨%V6, HO⟩
  iapply (run_recv xs K 6 c (sz := S512x4096.size) rfl rfl [2, 5, 9] (by decide) (W := V6)) $$ [HR6 HO]
  · isplitl [HR6]; · iexact HR6
    isplitr; · iexact Hlev
    iexact HO
  iintro ⟨HG6, HV6, HO⟩
  ihave HG6 := (Entails.of_eq (whole6 xs c)) $$ HG6
  ihave HG6 := (share2 xs 2 5 (pt c) c rfl rfl rfl rfl).1 $$ HG6
  icases HG6 with ⟨HG6, ⟨HL2, HT2⟩, HL5, HT5⟩
  icases HO with ⟨%W2, HO⟩
  iapply (run_send xs K 2 c (sz := S448x4096.size) (off := k0_off8 c 0#32) rfl rfl (dev11 c) (soff2 c) rfl rfl rfl [5, 9] (W := W2)) $$ [HX2 HL2 HW2 HO]
  · isplitl [HX2]; · iexact HX2
    isplitl [HL2]; · iexact HL2
    isplitl [HW2]; · iexact HW2
    iexact HO
  iintro ⟨HC2, HO⟩
  ihave HO := (show iprop(owes (c : Thread nD τ) (owe [5, 9] c) W2) ⊢ Ow [5, 9] c from exists_intro _) $$ HO
  iapply (run_ret c _ Kt)
  iapply Hk
  isplitl [HC8]; · iexact HC8
  isplitl [HC2]; · iexact HC2
  isplitl [HG6]; · iexact HG6
  isplitl [HT2]; · iexact HT2
  isplitl [HL5]; · iexact HL5
  isplitl [HT5]; · iexact HT5
  isplitl [HV6]; · iexact HV6
  iexact HO

set_option maxHeartbeats 1600000 in
theorem part7 (c : Dev nD) (s : Elt F .f32) (w' : Vec F S4096x1024 .fp8e4m3) (v9 v14 v24 : BitVec 32) (Kt : _ → sProp 𝕄) :
    iprop((Xf xs K 5 c ∗ lent xs 5 c ∗ winPay 5 c ∗ Ow [5, 9] c ∗ G xs c (lf c) fullShare.right ∗ G xs c (rt c) fullShare.right ∗ G xs c (pt c) fullShare.right ∗ bufP c cc0_scratch1 w' ∗ outAny c (lf c) ∗ outAny c (rt c)) ∗ ((sentC 5 c ∗ G xs c (lf c) fullShare.right ∗ G xs c (rt c) fullShare.right ∗ G xs c (pt c) fullShare.right ∗ bufP c cc0_scratch1 w' ∗ outP c (oblk (lf c)) (OUT xs w' s) ∗ outP c (oblk (rt c)) (OUT xs w' s) ∗ Ow [9] c) -∗ Kt (⟨k0_pay1 (xs (pt c)), w'⟩)))
      ⊢ run c (k0_part7 xM (Memref.isWhole_whole _) wM (Memref.isWhole_whole _) sM (Memref.isWhole_whole _) oM (Memref.isWhole_whole _) gxM (Memref.isWhole_whole _) w8M (Memref.isWhole_whole _) cc0_scratch2 cc0_scratch3 cc0_scratch4 cc0_scratch5 cc0_scratch6 cc0_scratch7 c v9 v14 v24 s) Kt := by
  rw [k0_part7_eq_skeleton]; unfold k0_part7_skel
  simp only [lift_bind, signal_bind, semWait_bind, smem_bind, pure_eq, ret_bind]
  iintro ⟨⟨HX5, HL5, HW5, HO, HG0, HG3, HG6, Hw8, Ho1, Ho2⟩, Hk⟩
  icases HO with ⟨%W5, HO⟩
  iapply (run_send xs K 5 c (sz := S448x4096.size) (off := k0_off8 c 64#32) rfl rfl (dev12 c) (soff5 c) rfl rfl rfl [9] (W := W5)) $$ [HX5 HL5 HW5 HO]
  · isplitl [HX5]; · iexact HX5
    isplitl [HL5]; · iexact HL5
    isplitl [HW5]; · iexact HW5
    iexact HO
  iintro ⟨HC5, HO⟩
  ihave HO := (show iprop(owes (c : Thread nD τ) (owe [9] c) W5) ⊢ Ow [9] c from exists_intro _) $$ HO
  iapply (run_load_gx xs (lf c) c (fullShare.right) (off9b c)) $$ HG0
  iintro HG0
  iapply (run_load c zero2 w') $$ Hw8
  iintro Hw8
  iapply (run_load_out (lf c) c (off10b c)) $$ Ho1
  iintro %_ Ho1
  iapply (run_store_out xs w' s (lf c) c (off10b c) (rfl)) $$ Ho1
  iintro Ho1
  iapply (run_load_gx xs (rt c) c (fullShare.right) (off11r c)) $$ HG3
  iintro HG3
  iapply (run_load c zero2 w') $$ Hw8
  iintro Hw8
  iapply (run_load_out (rt c) c (off12r c)) $$ Ho2
  iintro %_ Ho2
  iapply (run_store_out xs w' s (rt c) c (off12r c) (rfl)) $$ Ho2
  iintro Ho2
  iapply (run_load_gx xs (pt c) c (fullShare.right) (off13b c)) $$ HG6
  iintro HG6
  iapply (run_load c zero2 w') $$ Hw8
  iintro Hw8
  iapply (run_ret c _ Kt)
  iapply Hk
  isplitl [HC5]; · iexact HC5
  isplitl [HG0]; · iexact HG0
  isplitl [HG3]; · iexact HG3
  isplitl [HG6]; · iexact HG6
  isplitl [Hw8]; · iexact Hw8
  isplitl [Ho1]; · iexact Ho1
  isplitl [Ho2]; · iexact Ho2
  iexact HO

set_option maxHeartbeats 1600000 in
theorem part8 (c : Dev nD) (s : Elt F .f32) (w' : Vec F S4096x1024 .fp8e4m3) (v9 v14 v19 v24 : BitVec 32) (Kt : _ → sProp 𝕄) :
    iprop((outAny c (pt c) ∗ Rc xs K 1 c ∗ Rc xs K 4 c ∗ levAts L lv ∗ Xf xs K 9 c ∗ winPay 9 c ∗ Ow [9] c) ∗ (∀ v, (outP c (oblk (pt c)) (OUT xs w' s) ∗ semVal (recvCell 1 c) 0 ∗ semVal (recvCell 4 c) 0 ∗ G xs c (cn c) fullShare.right ∗ sentC 9 c ∗ Ow [] c) -∗ Kt (v)))
      ⊢ run c (k0_part8 xM (Memref.isWhole_whole _) wM (Memref.isWhole_whole _) sM (Memref.isWhole_whole _) oM (Memref.isWhole_whole _) gxM (Memref.isWhole_whole _) w8M (Memref.isWhole_whole _) cc0_scratch2 cc0_scratch3 cc0_scratch4 cc0_scratch5 cc0_scratch6 cc0_scratch7 c v9 v14 v19 v24 s (k0_pay1 (xs (pt c))) w') Kt := by
  rw [k0_part8_eq_skeleton]; unfold k0_part8_skel
  simp only [lift_bind, signal_bind, semWait_bind, smem_bind, pure_eq, ret_bind]
  iintro ⟨⟨Ho, HR1, HR4, #Hlev, HX9, HW9, HO⟩, Hk⟩
  iapply (run_load_out (pt c) c (off14b c)) $$ Ho
  iintro %_ Ho
  iapply (run_store_out xs w' s (pt c) c (off14b c) (rfl)) $$ Ho
  iintro Ho
  icases HO with ⟨%V1, HO⟩
  iapply (run_recv xs K 1 c (sz := S256x4096.size) rfl rfl [9] (by decide) (W := V1)) $$ [HR1 HO]
  · isplitl [HR1]; · iexact HR1
    isplitr; · iexact Hlev
    iexact HO
  iintro ⟨HG1, HV1, HO⟩
  icases HO with ⟨%V4, HO⟩
  iapply (run_recv xs K 4 c (sz := S256x4096.size) rfl rfl [9] (by decide) (W := V4)) $$ [HR4 HO]
  · isplitl [HR4]; · iexact HR4
    isplitr; · iexact Hlev
    iexact HO
  iintro ⟨HG4, HV4, HO⟩
  ihave HG1 := (join xs (cn c) c fullShare 1 4 (own1 c) (own4 c) rfl rfl rfl) $$ [HG1 HG4]
  · isplitl [HG1]; · iexact HG1
    iexact HG4
  ihave HG1 := (share1 xs c).1 $$ HG1
  icases HG1 with ⟨HG1, HL9⟩
  icases HO with ⟨%W9, HO⟩
  iapply (run_send xs K 9 c (sz := S512x4096.size) (off := k0_off15 c) rfl rfl (dev13 c) (soff9 c) rfl rfl rfl [] (W := W9)) $$ [HX9 HL9 HW9 HO]
  · isplitl [HX9]; · iexact HX9
    isplitl [HL9]; · iexact HL9
    isplitl [HW9]; · iexact HW9
    iexact HO
  iintro ⟨HC9, HO⟩
  ihave HO := (show iprop(owes (c : Thread nD τ) (owe [] c) W9) ⊢ Ow [] c from exists_intro _) $$ HO
  iapply (run_ret c _ Kt)
  iapply Hk
  isplitl [Ho]; · iexact Ho
  isplitl [HV1]; · iexact HV1
  isplitl [HV4]; · iexact HV4
  isplitl [HG1]; · iexact HG1
  isplitl [HC9]; · iexact HC9
  iexact HO

set_option maxHeartbeats 1600000 in
theorem part9 (c : Dev nD) (s : Elt F .f32) (w' : Vec F S4096x1024 .fp8e4m3) (v14 v19 v24 v30 v : BitVec 32) (Kt : _ → sProp 𝕄) :
    iprop((G xs c (cn c) fullShare.right ∗ bufP c cc0_scratch1 w' ∗ outAny c (cn c) ∗ Rc xs K 2 c ∗ Rc xs K 7 c ∗ levAts L lv ∗ Ow [] c) ∗ ((G xs c (cn c) fullShare.right ∗ bufP c cc0_scratch1 w' ∗ outP c (oblk (cn c)) (OUT xs w' s) ∗ semVal (recvCell 2 c) 0 ∗ semVal (recvCell 7 c) 0 ∗ G xs c (pt (lf c)) fullShare ∗ Ow [] c) -∗ Kt (⟨k0_pay1 (xs (pt (lf c))), w', (constant S512x1024 .f32 0x00000000#32)⟩)))
      ⊢ run c (k0_part9 xM (Memref.isWhole_whole _) wM (Memref.isWhole_whole _) sM (Memref.isWhole_whole _) oM (Memref.isWhole_whole _) gxM (Memref.isWhole_whole _) w8M (Memref.isWhole_whole _) cc0_scratch2 cc0_scratch3 cc0_scratch4 cc0_scratch5 cc0_scratch6 cc0_scratch7 c v14 v19 v24 v30 s v) Kt := by
  rw [k0_part9_eq_skeleton]; unfold k0_part9_skel
  simp only [lift_bind, signal_bind, semWait_bind, smem_bind, pure_eq, ret_bind]
  iintro ⟨⟨HG1, Hw8, Ho, HR2, HR7, #Hlev, HO⟩, Hk⟩
  iapply (run_load_gx xs (cn c) c (fullShare.right) (off11c c)) $$ HG1
  iintro HG1
  iapply (run_load c zero2 w') $$ Hw8
  iintro Hw8
  iapply (run_load_out (cn c) c (off12c c)) $$ Ho
  iintro %_ Ho
  iapply (run_store_out xs w' s (cn c) c (off12c c) (rfl)) $$ Ho
  iintro Ho
  icases HO with ⟨%V2, HO⟩
  iapply (run_recv xs K 2 c (sz := S448x4096.size) rfl rfl [] (by decide) (W := V2)) $$ [HR2 HO]
  · isplitl [HR2]; · iexact HR2
    isplitr; · iexact Hlev
    iexact HO
  iintro ⟨HG2, HV2, HO⟩
  icases HO with ⟨%V7, HO⟩
  iapply (run_recv xs K 7 c (sz := S64x4096.size) rfl rfl [] (by decide) (W := V7)) $$ [HR7 HO]
  · isplitl [HR7]; · iexact HR7
    isplitr; · iexact Hlev
    iexact HO
  iintro ⟨HG7, HV7, HO⟩
  ihave HJ := (join xs (pt (lf c)) c fullShare 2 7 (own2 c) (own7 c) rfl rfl rfl) $$ [HG2 HG7]
  · isplitl [HG2]; · iexact HG2
    iexact HG7
  iapply (run_load_gx xs (pt (lf c)) c (fullShare) (off16b c)) $$ HJ
  iintro HJ
  iapply (run_load c zero2 w') $$ Hw8
  iintro Hw8
  iapply (run_ret c _ Kt)
  iapply Hk
  isplitl [HG1]; · iexact HG1
  isplitl [Hw8]; · iexact Hw8
  isplitl [Ho]; · iexact Ho
  isplitl [HV2]; · iexact HV2
  isplitl [HV7]; · iexact HV7
  isplitl [HJ]; · iexact HJ
  iexact HO

set_option maxHeartbeats 1600000 in
theorem part10 (c : Dev nD) (s : Elt F .f32) (w' : Vec F S4096x1024 .fp8e4m3) (v9 v24 v30 v36 : BitVec 32) (Kt : _ → sProp 𝕄) :
    iprop((outAny c (pt (lf c)) ∗ Rc xs K 5 c ∗ Rc xs K 8 c ∗ levAts L lv ∗ bufP c cc0_scratch1 w' ∗ Ow [] c) ∗ ((outP c (oblk (pt (lf c))) (OUT xs w' s) ∗ semVal (recvCell 5 c) 0 ∗ semVal (recvCell 8 c) 0 ∗ G xs c (pt (rt c)) fullShare ∗ bufP c cc0_scratch1 w' ∗ Ow [] c) -∗ Kt (k0_pay10 s (k0_pay1 (xs (pt (rt c)))) w')))
      ⊢ run c (k0_part10 xM (Memref.isWhole_whole _) wM (Memref.isWhole_whole _) sM (Memref.isWhole_whole _) oM (Memref.isWhole_whole _) gxM (Memref.isWhole_whole _) w8M (Memref.isWhole_whole _) cc0_scratch2 cc0_scratch3 cc0_scratch4 cc0_scratch5 cc0_scratch6 cc0_scratch7 c v9 v24 v30 v36 s (k0_pay1 (xs (pt (lf c)))) w' (constant S512x1024 .f32 0x00000000#32)) Kt := by
  rw [k0_part10_eq_skeleton]; unfold k0_part10_skel
  simp only [lift_bind, signal_bind, semWait_bind, smem_bind, pure_eq, ret_bind]
  iintro ⟨⟨Ho, HR5, HR8, #Hlev, Hw8, HO⟩, Hk⟩
  iapply (run_load_out (pt (lf c)) c (off17b c)) $$ Ho
  iintro %_ Ho
  iapply (run_store_out xs w' s (pt (lf c)) c (off17b c) (rfl)) $$ Ho
  iintro Ho
  icases HO with ⟨%V5, HO⟩
  iapply (run_recv xs K 5 c (sz := S448x4096.size) rfl rfl [] (by decide) (W := V5)) $$ [HR5 HO]
  · isplitl [HR5]; · iexact HR5
    isplitr; · iexact Hlev
    iexact HO
  iintro ⟨HG5, HV5, HO⟩
  icases HO with ⟨%V8, HO⟩
  iapply (run_recv xs K 8 c (sz := S64x4096.size) rfl rfl [] (by decide) (W := V8)) $$ [HR8 HO]
  · isplitl [HR8]; · iexact HR8
    isplitr; · iexact Hlev
    iexact HO
  iintro ⟨HG8, HV8, HO⟩
  ihave HJ := (join xs (pt (rt c)) c fullShare 8 5 (own8 c) (own5 c) rfl rfl rfl) $$ [HG8 HG5]
  · isplitl [HG8]; · iexact HG8
    iexact HG5
  iapply (run_load_gx xs (pt (rt c)) c (fullShare) (off18r c)) $$ HJ
  iintro HJ
  iapply (run_load c zero2 w') $$ Hw8
  iintro Hw8
  iapply (run_ret c _ Kt)
  iapply Hk
  isplitl [Ho]; · iexact Ho
  isplitl [HV5]; · iexact HV5
  isplitl [HV8]; · iexact HV8
  isplitl [HJ]; · iexact HJ
  isplitl [Hw8]; · iexact Hw8
  iexact HO

set_option maxHeartbeats 1600000 in
theorem part11 (c : Dev nD) (s : Elt F .f32) (w' : Vec F S4096x1024 .fp8e4m3) (v24 v42 : BitVec 32) (Kt : _ → sProp 𝕄) :
    iprop((outAny c (pt (rt c)) ∗ outAny c (pt (cn c)) ∗ Rc xs K 9 c ∗ levAts L lv ∗ bufP c cc0_scratch1 w' ∗ Sn xs K 0 c ∗ Sn xs K 1 c ∗ sentC 0 c ∗ sentC 1 c ∗ Ow [] c) ∗ ((outP c (oblk (pt (rt c))) (OUT xs w' s) ∗ outP c (oblk (pt (cn c))) (OUT xs w' s) ∗ G xs c (pt (cn c)) fullShare ∗ semVal (recvCell 9 c) 0 ∗ bufP c cc0_scratch1 w' ∗ lent xs 0 c ∗ semVal (sendCell 0 c) 0 ∗ lent xs 1 c ∗ semVal (sendCell 1 c) 0 ∗ Ow [] c) -∗ Kt (⟨⟩)))
      ⊢ run c (k0_part11 xM (Memref.isWhole_whole _) wM (Memref.isWhole_whole _) sM (Memref.isWhole_whole _) oM (Memref.isWhole_whole _) gxM (Memref.isWhole_whole _) w8M (Memref.isWhole_whole _) cc0_scratch2 cc0_scratch3 cc0_scratch4 cc0_scratch5 cc0_scratch6 cc0_scratch7 c v24 v42 s (k0_pay10 s (k0_pay1 (xs (pt (rt c)))) w')) Kt := by
  rw [k0_part11_eq_skeleton]; unfold k0_part11_skel
  simp only [lift_bind, signal_bind, semWait_bind, smem_bind, pure_eq, ret_bind]
  iintro ⟨⟨Ho1, Ho2, HR9, #Hlev, Hw8, HN0, HN1, HC0, HC1, HO⟩, Hk⟩
  iapply (run_load_out (pt (rt c)) c (off19r c)) $$ Ho1
  iintro %_ Ho1
  iapply (run_store_out xs w' s (pt (rt c)) c (off19r c) (rfl)) $$ Ho1
  iintro Ho1
  icases HO with ⟨%V9, HO⟩
  iapply (run_recv xs K 9 c (sz := S512x4096.size) rfl rfl [] (by decide) (W := V9)) $$ [HR9 HO]
  · isplitl [HR9]; · iexact HR9
    isplitr; · iexact Hlev
    iexact HO
  iintro ⟨HG9, HV9, HO⟩
  ihave HG9 := (Entails.of_eq (whole9 xs c)) $$ HG9
  iapply (run_load_gx xs (pt (cn c)) c (fullShare) (off18x c)) $$ HG9
  iintro HG9
  iapply (run_load c zero2 w') $$ Hw8
  iintro Hw8
  iapply (run_load_out (pt (cn c)) c (off19x c)) $$ Ho2
  iintro %_ Ho2
  iapply (run_store_out xs w' s (pt (cn c)) c (off19x c) (rfl)) $$ Ho2
  iintro Ho2
  icases HO with ⟨%U0, HO⟩
  iapply (run_sent xs K 0 c (sz := S512x4096.size) rfl rfl (W := U0)) $$ [HN0 HC0 HO]
  · isplitl [HN0]; · iexact HN0
    isplitl [HC0]; · iexact HC0
    iexact HO
  iintro ⟨HL0, HU0, HO⟩
  icases HO with ⟨%U1, HO⟩
  iapply (run_sent xs K 1 c (sz := S256x4096.size) rfl rfl (W := U1)) $$ [HN1 HC1 HO]
  · isplitl [HN1]; · iexact HN1
    isplitl [HC1]; · iexact HC1
    iexact HO
  iintro ⟨HL1, HU1, HO⟩
  iapply (run_ret c _ Kt)
  iapply Hk
  isplitl [Ho1]; · iexact Ho1
  isplitl [Ho2]; · iexact Ho2
  isplitl [HG9]; · iexact HG9
  isplitl [HV9]; · iexact HV9
  isplitl [Hw8]; · iexact Hw8
  isplitl [HL0]; · iexact HL0
  isplitl [HU0]; · iexact HU0
  isplitl [HL1]; · iexact HL1
  isplitl [HU1]; · iexact HU1
  iexact HO

set_option maxHeartbeats 1600000 in
theorem part12 (c : Dev nD) (Kt : _ → sProp 𝕄) :
    iprop((Sn xs K 2 c ∗ Sn xs K 3 c ∗ Sn xs K 4 c ∗ Sn xs K 5 c ∗ Sn xs K 6 c ∗ Sn xs K 7 c ∗ sentC 2 c ∗ sentC 3 c ∗ sentC 4 c ∗ sentC 5 c ∗ sentC 6 c ∗ sentC 7 c ∗ Ow [] c) ∗ ((lent xs 2 c ∗ semVal (sendCell 2 c) 0 ∗ lent xs 3 c ∗ semVal (sendCell 3 c) 0 ∗ lent xs 4 c ∗ semVal (sendCell 4 c) 0 ∗ lent xs 5 c ∗ semVal (sendCell 5 c) 0 ∗ lent xs 6 c ∗ semVal (sendCell 6 c) 0 ∗ lent xs 7 c ∗ semVal (sendCell 7 c) 0 ∗ Ow [] c) -∗ Kt (⟨⟩)))
      ⊢ run c (k0_part12 xM (Memref.isWhole_whole _) wM (Memref.isWhole_whole _) sM (Memref.isWhole_whole _) oM (Memref.isWhole_whole _) gxM (Memref.isWhole_whole _) w8M (Memref.isWhole_whole _) cc0_scratch2 cc0_scratch3 cc0_scratch4 cc0_scratch5 cc0_scratch6 cc0_scratch7 c) Kt := by
  rw [k0_part12_eq_skeleton]; unfold k0_part12_skel
  simp only [lift_bind, signal_bind, semWait_bind, smem_bind, pure_eq, ret_bind]
  iintro ⟨⟨HN2, HN3, HN4, HN5, HN6, HN7, HC2, HC3, HC4, HC5, HC6, HC7, HO⟩, Hk⟩
  icases HO with ⟨%U2, HO⟩
  iapply (run_sent xs K 2 c (sz := S448x4096.size) rfl rfl (W := U2)) $$ [HN2 HC2 HO]
  · isplitl [HN2]; · iexact HN2
    isplitl [HC2]; · iexact HC2
    iexact HO
  iintro ⟨HL2, HU2, HO⟩
  icases HO with ⟨%U3, HO⟩
  iapply (run_sent xs K 3 c (sz := S512x4096.size) rfl rfl (W := U3)) $$ [HN3 HC3 HO]
  · isplitl [HN3]; · iexact HN3
    isplitl [HC3]; · iexact HC3
    iexact HO
  iintro ⟨HL3, HU3, HO⟩
  icases HO with ⟨%U4, HO⟩
  iapply (run_sent xs K 4 c (sz := S256x4096.size) rfl rfl (W := U4)) $$ [HN4 HC4 HO]
  · isplitl [HN4]; · iexact HN4
    isplitl [HC4]; · iexact HC4
    iexact HO
  iintro ⟨HL4, HU4, HO⟩
  icases HO with ⟨%U5, HO⟩
  iapply (run_sent xs K 5 c (sz := S448x4096.size) rfl rfl (W := U5)) $$ [HN5 HC5 HO]
  · isplitl [HN5]; · iexact HN5
    isplitl [HC5]; · iexact HC5
    iexact HO
  iintro ⟨HL5, HU5, HO⟩
  icases HO with ⟨%U6, HO⟩
  iapply (run_sent xs K 6 c (sz := S512x4096.size) rfl rfl (W := U6)) $$ [HN6 HC6 HO]
  · isplitl [HN6]; · iexact HN6
    isplitl [HC6]; · iexact HC6
    iexact HO
  iintro ⟨HL6, HU6, HO⟩
  icases HO with ⟨%U7, HO⟩
  iapply (run_sent xs K 7 c (sz := S64x4096.size) rfl rfl (W := U7)) $$ [HN7 HC7 HO]
  · isplitl [HN7]; · iexact HN7
    isplitl [HC7]; · iexact HC7
    iexact HO
  iintro ⟨HL7, HU7, HO⟩
  iapply (run_ret c _ Kt)
  iapply Hk
  isplitl [HL2]; · iexact HL2
  isplitl [HU2]; · iexact HU2
  isplitl [HL3]; · iexact HL3
  isplitl [HU3]; · iexact HU3
  isplitl [HL4]; · iexact HL4
  isplitl [HU4]; · iexact HU4
  isplitl [HL5]; · iexact HL5
  isplitl [HU5]; · iexact HU5
  isplitl [HL6]; · iexact HL6
  isplitl [HU6]; · iexact HU6
  isplitl [HL7]; · iexact HL7
  isplitl [HU7]; · iexact HU7
  iexact HO

end Parts

end Cert.KernelIdeal.Gather
-- ==== Proof.KernelIdeal.Whole.lean ====
module

public import proofs.«01_k».proof.Proof.KernelIdeal.Body

@[expose] public section

set_option maxRecDepth 65536

/-! # The whole body

The twelve parts put together: a device's run of the kernel, from the launch's right to each of its cells to everything at
rest again, the result's buffer holding every block. -/

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Whole

variable (xs : Dev nD → Vec F S512x4096 .fp8e4m3) (K : GSem nD τ sig → ℕ)

/-! ## Buffers in parts -/

theorem devs_nodup : ∀ c : Dev nD, [c, lf c, rt c, pt c, cn c, pt (lf c), pt (rt c), pt (cn c)].Nodup := by decide +kernel
theorem devs_all : ∀ c : Dev nD, Finset.univ = [c, lf c, rt c, pt c, cn c, pt (lf c), pt (rt c), pt (cn c)].toFinset := by decide +kernel
theorem bigSep_devs (c : Dev nD) (Φ : Dev nD → sProp 𝕄) :
    bigSep Finset.univ Φ = iprop(Φ c ∗ Φ (lf c) ∗ Φ (rt c) ∗ Φ (pt c) ∗ Φ (cn c) ∗ Φ (pt (lf c)) ∗ Φ (pt (rt c)) ∗ Φ (pt (cn c))) :=
  bigSep_univ_eq_bigSepL _ (devs_all c) (devs_nodup c) Φ
theorem bigSep_ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
theorem bigSep_parts (Φ : Option (Fin 10) → sProp 𝕄) :
    bigSep Finset.univ Φ = iprop(Φ none ∗ Φ (some 0) ∗ Φ (some 1) ∗ Φ (some 2) ∗ Φ (some 3) ∗ Φ (some 4) ∗ Φ (some 5) ∗ Φ (some 6) ∗ Φ (some 7) ∗ Φ (some 8) ∗ Φ (some 9)) :=
  bigSep_univ_eq_bigSepL [none, some 0, some 1, some 2, some 3, some 4, some 5, some 6, some 7, some 8, some 9] (by decide) (by decide) Φ

theorem fam_split {T : Type} [Fintype T] {ℓ : Loc nD τ sig} {q : PosShare TreeShare} {f : Buf (Elt F) ℓ} (P : T → Finset (Idx ℓ)) (S : Finset (Idx ℓ))
    (hd : ∀ t t', t ≠ t' → Disjoint (P t) (P t')) (hc : ∀ i, i ∈ S ↔ ∃ t, i ∈ P t) :
    (ℓ ↦[S]{q} f : sProp 𝕄) = bigSep Finset.univ fun t => ℓ ↦[P t]{q} f := by
  rw [← pointsTo_biUnion Finset.univ P fun t _ t' _ h => hd t t' h]
  have : S = Finset.univ.biUnion P := by
    ext i; rw [Finset.mem_biUnion, hc]
    exact ⟨fun ⟨t, h⟩ => ⟨t, Finset.mem_univ t, h⟩, fun ⟨t, _, h⟩ => ⟨t, h⟩⟩
  rw [this]

theorem blk_disjoint (o o' : Dev nD) (h : o ≠ o') : Disjoint (blk o) (blk o') :=
  rws_disjoint (by have : o.1 ≠ o'.1 := fun e => h (Fin.ext e); omega)
theorem blk_all (i : S4096x4096.Idx) : ∃ o, i ∈ blk o := by
  have hi : (i 0).1 < 4096 := (i 0).2
  refine ⟨⟨(i 0).1 / 512, by simp only [nD]; omega⟩, mem_rws.mpr ?_⟩
  dsimp only; omega
theorem oblk_disjoint (o o' : Dev nD) (h : o ≠ o') : Disjoint (oblk o) (oblk o') := by
  have : o.1 ≠ o'.1 := fun e => h (Fin.ext e)
  rw [Finset.disjoint_left]; intro i h1 h2; rw [mem_oblk] at h1 h2; omega
theorem oblk_all (i : S4096x1024.Idx) : ∃ o, i ∈ oblk o := by
  have hi : (i 0).1 < 4096 := (i 0).2
  refine ⟨⟨(i 0).1 / 512, by simp only [nD]; omega⟩, mem_oblk.mpr ?_⟩
  dsimp only; omega

theorem gx_parts (c : Dev nD) (f : S4096x4096.Idx → Elt F .fp8e4m3) :
    (gxP c Finset.univ fullShare f : sProp 𝕄) = iprop(gxP c (blk c) fullShare f ∗ gxP c (sset 0 (src 0 c)) fullShare f ∗ gxP c (sset 1 (src 1 c)) fullShare f ∗ gxP c (sset 2 (src 2 c)) fullShare f ∗ gxP c (sset 3 (src 3 c)) fullShare f ∗ gxP c (sset 4 (src 4 c)) fullShare f ∗ gxP c (sset 5 (src 5 c)) fullShare f ∗ gxP c (sset 6 (src 6 c)) fullShare f ∗ gxP c (sset 7 (src 7 c)) fullShare f ∗ gxP c (sset 8 (src 8 c)) fullShare f ∗ gxP c (sset 9 (src 9 c)) fullShare f) := by
  exact (fam_split (ℓ := gxL c) (part c) Finset.univ (part_disjoint c) fun i => ⟨fun _ => part_all c i, fun _ => Finset.mem_univ i⟩).trans (bigSep_parts _)
theorem gx_blocks (c : Dev nD) (f : S4096x4096.Idx → Elt F .fp8e4m3) :
    (gxP c Finset.univ fullShare f : sProp 𝕄) = bigSep Finset.univ fun o => gxP c (blk o) fullShare f := by
  exact fam_split (ℓ := gxL c) blk Finset.univ blk_disjoint fun i => ⟨fun _ => blk_all i, fun _ => Finset.mem_univ i⟩
theorem out_blocks (c : Dev nD) (f : S4096x1024.Idx → Elt F .f32) :
    (outP c Finset.univ f : sProp 𝕄) = bigSep Finset.univ fun o => outP c (oblk o) f := by
  exact fam_split (ℓ := outL c) oblk Finset.univ oblk_disjoint fun i => ⟨fun _ => oblk_all i, fun _ => Finset.mem_univ i⟩

/-! ## The windows handed to the neighbours -/

theorem winPay_intro (j : Fin 10) (c : Dev nD) (f : S4096x4096.Idx → Elt F .fp8e4m3) :
    iprop(gxP c (sset j (src j c)) fullShare f ∗ reached ER (recvCell j c) 0) ⊢ (winPay j (src j c) : sProp 𝕄) := by
  unfold winPay; rw [dst_src]
  iintro ⟨H, HR⟩
  isplitl [H]; · iexists f; iexact H
  iexact HR

/-! ## A device's rights -/

/-- All it needs of its own cells and its neighbours'. -/
def rights (c : Dev nD) : sProp 𝕄 :=
  iprop(Br xs K c ∗ (Sg xs K 0 c ∗ Sg xs K 1 c ∗ Sg xs K 2 c)
    ∗ (bigSep Finset.univ fun j => Xf xs K j c) ∗ (bigSep Finset.univ fun j => Rc xs K j c) ∗ (bigSep Finset.univ fun j => Sn xs K j c)
    ∗ bigSep Finset.univ fun j => reached ER (recvCell j c) 0)
/-- All its counters at zero. -/
def rested (c : Dev nD) : sProp 𝕄 :=
  iprop((bigSep Finset.univ fun j => semVal (sendCell j c) 0) ∗ bigSep Finset.univ fun j => semVal (recvCell j c) 0)

/-- The scale word, the converted weight. -/
abbrev w8 (w : Vec F S4096x1024 .fp8e4m3) : Vec F S4096x1024 .fp8e4m3 := k0_pay3 (k0_pay2 w)

def bodyPre (c : Dev nD) (w : Vec F S4096x1024 .fp8e4m3) (f2 : Vec F S1x1 .f32) : sProp 𝕄 :=
  iprop(rights xs K c ∗ levAts L lv ∗ bufP c cc0_stg0_0 (xs c) ∗ bufP c cc0_stg1_0 w ∗ bufP c cc0_stg2_0 f2
    ∗ (∃ f, outP c Finset.univ f) ∗ (∃ f, gxP c Finset.univ fullShare f) ∗ (∃ f, bufP c cc0_scratch1 f)
    ∗ ∃ W, owes (c : Thread nD τ) (O₀ c) W)
def bodyPost (c : Dev nD) (w : Vec F S4096x1024 .fp8e4m3) (f2 : Vec F S1x1 .f32) : sProp 𝕄 :=
  iprop(semVal (barCell c) 0 ∗ rested c ∗ bufP c cc0_stg0_0 (xs c) ∗ bufP c cc0_stg1_0 w ∗ bufP c cc0_stg2_0 f2
    ∗ outP c Finset.univ (OUT xs (w8 w) (scal f2)) ∗ (∃ f, gxP c Finset.univ fullShare f) ∗ (∃ f, bufP c cc0_scratch1 f)
    ∗ ∃ W, owes (c : Thread nD τ) 0 W)

theorem any_intro (c o : Dev nD) (f : S4096x1024.Idx → Elt F .f32) : (outP c (oblk o) f : sProp 𝕄) ⊢ outAny c o := by
  unfold outAny; iintro H; iexists f; iexact H

theorem bind_run {α β : Type} (c : Dev nD) (p : Prog (TpuEff nD τ sig (Elt F) Λ₀ .tc) α) (k : α → Prog (TpuEff nD τ sig (Elt F) Λ₀ .tc) β) (Q : β → sProp 𝕄) :
    run c p (fun r => run c (k r) Q) ⊢ run c (p >>= k) Q := by
  unfold run; rw [wp_bind]

set_option maxHeartbeats 4000000 in
/-- A device's run of the body. -/
theorem bodyRun (c : Dev nD) (w : Vec F S4096x1024 .fp8e4m3) (f2 : Vec F S1x1 .f32) (Kt : PUnit → sProp 𝕄) :
    iprop(bodyPre xs K c w f2 ∗ (bodyPost xs c w f2 -∗ Kt ⟨⟩)) ⊢ run c (cc0_body xM (Memref.isWhole_whole _) wM (Memref.isWhole_whole _) sM (Memref.isWhole_whole _) oM (Memref.isWhole_whole _) gxM (Memref.isWhole_whole _) w8M (Memref.isWhole_whole _) cc0_scratch2 cc0_scratch3 cc0_scratch4 cc0_scratch5 cc0_scratch6 cc0_scratch7) Kt := by
  rw [cc0_body_eq_skeleton]; unfold cc0_body_skel bodyPre rights
  rw [bigSep_ten, bigSep_ten, bigSep_ten, bigSep_ten]
  iintro ⟨⟨⟨HB, ⟨HS0, HS1, HS2⟩, ⟨HX0, HX1, HX2, HX3, HX4, HX5, HX6, HX7, HX8, HX9⟩, ⟨HR0, HR1, HR2, HR3, HR4, HR5, HR6, HR7, HR8, HR9⟩, ⟨HN0, HN1, HN2, HN3, HN4, HN5, HN6, HN7, HN8, HN9⟩, HM0, HM1, HM2, HM3, HM4, HM5, HM6, HM7, HM8, HM9⟩,
    #Hlev, Hx, Hw, Hs, ⟨%fo, Ho⟩, ⟨%f, Hg⟩, ⟨%w0, Hw8⟩, %W, HO⟩, Hk⟩
  ihave Hg := (Entails.of_eq (gx_parts c f)) $$ Hg
  icases Hg with ⟨Hg, HD0, HD1, HD2, HD3, HD4, HD5, HD6, HD7, HD8, HD9⟩
  ihave Ho := (Entails.of_eq ((out_blocks c fo).trans (bigSep_devs c _))) $$ Ho
  icases Ho with ⟨Ho0, Ho1, Ho2, Ho3, Ho4, Ho5, Ho6, Ho7⟩
  ihave Ho0 := (any_intro c (c) fo) $$ Ho0
  ihave Ho1 := (any_intro c (lf c) fo) $$ Ho1
  ihave Ho2 := (any_intro c (rt c) fo) $$ Ho2
  ihave Ho3 := (any_intro c (pt c) fo) $$ Ho3
  ihave Ho4 := (any_intro c (cn c) fo) $$ Ho4
  ihave Ho5 := (any_intro c (pt (lf c)) fo) $$ Ho5
  ihave Ho6 := (any_intro c (pt (rt c)) fo) $$ Ho6
  ihave Ho7 := (any_intro c (pt (cn c)) fo) $$ Ho7
  ihave HD0 := (winPay_intro 0 c f) $$ [HD0 HM0]
  · isplitl [HD0] <;> iassumption
  ihave HD1 := (winPay_intro 1 c f) $$ [HD1 HM1]
  · isplitl [HD1] <;> iassumption
  ihave HD2 := (winPay_intro 2 c f) $$ [HD2 HM2]
  · isplitl [HD2] <;> iassumption
  ihave HD3 := (winPay_intro 3 c f) $$ [HD3 HM3]
  · isplitl [HD3] <;> iassumption
  ihave HD4 := (winPay_intro 4 c f) $$ [HD4 HM4]
  · isplitl [HD4] <;> iassumption
  ihave HD5 := (winPay_intro 5 c f) $$ [HD5 HM5]
  · isplitl [HD5] <;> iassumption
  ihave HD6 := (winPay_intro 6 c f) $$ [HD6 HM6]
  · isplitl [HD6] <;> iassumption
  ihave HD7 := (winPay_intro 7 c f) $$ [HD7 HM7]
  · isplitl [HD7] <;> iassumption
  ihave HD8 := (winPay_intro 8 c f) $$ [HD8 HM8]
  · isplitl [HD8] <;> iassumption
  ihave HD9 := (winPay_intro 9 c f) $$ [HD9 HM9]
  · isplitl [HD9] <;> iassumption
  ihave HP0 := (show iprop(winPay 0 (src 0 c) ∗ winPay 1 (src 1 c) ∗ winPay 2 (src 2 c)) ⊢ (barPay 0 ((nbE 0).symm c) : sProp 𝕄) from .rfl) $$ [HD0 HD1 HD2]
  · isplitl [HD0]; · iexact HD0
    isplitl [HD1]; · iexact HD1
    iexact HD2
  ihave HP1 := (show iprop(winPay 3 (src 3 c) ∗ winPay 4 (src 4 c) ∗ winPay 5 (src 5 c)) ⊢ (barPay 1 ((nbE 1).symm c) : sProp 𝕄) from .rfl) $$ [HD3 HD4 HD5]
  · isplitl [HD3]; · iexact HD3
    isplitl [HD4]; · iexact HD4
    iexact HD5
  ihave HP2 := (show iprop(winPay 6 (src 6 c) ∗ winPay 7 (src 7 c) ∗ winPay 8 (src 8 c) ∗ winPay 9 (src 9 c)) ⊢ (barPay 2 ((nbE 2).symm c) : sProp 𝕄) from .rfl) $$ [HD6 HD7 HD8 HD9]
  · isplitl [HD6]; · iexact HD6
    isplitl [HD7]; · iexact HD7
    isplitl [HD8]; · iexact HD8
    iexact HD9
  iapply (bind_run c _ _ _)
  iapply (part1 c _)
  iintro %v2 %v3 %v4 %v9 %v14 %v19 %v24 %v30 %v31 %c1
  iapply (bind_run c _ _ _)
  iapply (part2 xs K c f2 f W _ _ _ _ _ _ _ _ _)
  isplitl [HB HS0 HS1 HS2 HP0 HP1 HP2 Hs Hx Hg HO]
  · isplitl [HB]; · iexact HB
    isplitl [HS0]; · iexact HS0
    isplitl [HS1]; · iexact HS1
    isplitl [HS2]; · iexact HS2
    isplitl [HP0]; · iexact HP0
    isplitl [HP1]; · iexact HP1
    isplitl [HP2]; · iexact HP2
    isplitr; · iexact Hlev
    isplitl [Hs]; · iexact Hs
    isplitl [Hx]; · iexact Hx
    isplitl [Hg]; · iexact Hg
    iexact HO
  iintro %v36 %v42 %v59 ⟨HQ0, HQ1, HQ2, HVb, Hs, Hx, Hg, HO⟩
  unfold barPay
  icases HQ0 with ⟨HW0, HW1, HW2⟩
  icases HQ1 with ⟨HW3, HW4, HW5⟩
  icases HQ2 with ⟨HW6, HW7, HW8, HW9⟩
  ihave Hg := (share3 xs c).1 $$ Hg
  icases Hg with ⟨Hg, HL0, HL3, HL6⟩
  iapply (bind_run c _ _ _)
  iapply (part3 xs K c w _ _ _ _ _ _)
  isplitl [HX0 HX3 HX6 HL0 HL3 HL6 HW0 HW3 HW6 HO Hw]
  · isplitl [HX0]; · iexact HX0
    isplitl [HX3]; · iexact HX3
    isplitl [HX6]; · iexact HX6
    isplitl [HL0]; · iexact HL0
    isplitl [HL3]; · iexact HL3
    isplitl [HL6]; · iexact HL6
    isplitl [HW0]; · iexact HW0
    isplitl [HW3]; · iexact HW3
    isplitl [HW6]; · iexact HW6
    isplitl [HO]; · iexact HO
    iexact Hw
  iintro ⟨HC0, HC3, HC6, Hw, HO⟩
  iapply (bind_run c _ _ _)
  iapply (part4 xs K c (scal f2) w0 (w8 w) (k0_pay2 w) rfl _ _ _ _)
  isplitl [Hw8 Hg Ho0 HR0 HO]
  · isplitl [Hw8]; · iexact Hw8
    isplitl [Hg]; · iexact Hg
    isplitl [Ho0]; · iexact Ho0
    isplitl [HR0]; · iexact HR0
    isplitr; · iexact Hlev
    iexact HO
  iintro ⟨Hw8, Hg, Ho0, HG0, HV0, HO⟩
  ihave HG0 := (Entails.of_eq (whole0 xs c)) $$ HG0
  ihave HG0 := (share2 xs 1 7 (lf c) c rfl rfl rfl rfl).1 $$ HG0
  icases HG0 with ⟨HG0, ⟨HL1, HT1⟩, HL7, HT7⟩
  iapply (bind_run c _ _ _)
  iapply (part5 xs K c _ _ _ _)
  isplitl [HX1 HX7 HX4 HL1 HL7 HW1 HW7 HW4 HR3 HO]
  · isplitl [HX1]; · iexact HX1
    isplitl [HX7]; · iexact HX7
    isplitl [HX4]; · iexact HX4
    isplitl [HL1]; · iexact HL1
    isplitl [HL7]; · iexact HL7
    isplitl [HW1]; · iexact HW1
    isplitl [HW7]; · iexact HW7
    isplitl [HW4]; · iexact HW4
    isplitl [HR3]; · iexact HR3
    isplitr; · iexact Hlev
    iexact HO
  iintro %v152 ⟨HC1, HC7, HC4, HG3, HT4, HL8, HT8, HV3, HO⟩
  iapply (bind_run c _ _ _)
  iapply (part6 xs K c _ _ _ _ _)
  isplitl [HX8 HX2 HL8 HW8 HW2 HR6 HO]
  · isplitl [HX8]; · iexact HX8
    isplitl [HX2]; · iexact HX2
    isplitl [HL8]; · iexact HL8
    isplitl [HW8]; · iexact HW8
    isplitl [HW2]; · iexact HW2
    isplitl [HR6]; · iexact HR6
    isplitr; · iexact Hlev
    iexact HO
  iintro ⟨HC8, HC2, HG6, HT2, HL5, HT5, HV6, HO⟩
  iapply (bind_run c _ _ _)
  iapply (part7 xs K c (scal f2) (w8 w) _ _ _ _)
  isplitl [HX5 HL5 HW5 HO HG0 HG3 HG6 Hw8 Ho1 Ho2]
  · isplitl [HX5]; · iexact HX5
    isplitl [HL5]; · iexact HL5
    isplitl [HW5]; · iexact HW5
    isplitl [HO]; · iexact HO
    isplitl [HG0]; · iexact HG0
    isplitl [HG3]; · iexact HG3
    isplitl [HG6]; · iexact HG6
    isplitl [Hw8]; · iexact Hw8
    isplitl [Ho1]; · iexact Ho1
    iexact Ho2
  iintro ⟨HC5, HG0, HG3, HG6, Hw8, Ho1, Ho2, HO⟩
  iapply (bind_run c _ _ _)
  iapply (part8 xs K c (scal f2) (w8 w) _ _ _ _ _)
  isplitl [Ho3 HR1 HR4 HX9 HW9 HO]
  · isplitl [Ho3]; · iexact Ho3
    isplitl [HR1]; · iexact HR1
    isplitl [HR4]; · iexact HR4
    isplitr; · iexact Hlev
    isplitl [HX9]; · iexact HX9
    isplitl [HW9]; · iexact HW9
    iexact HO
  iintro %v ⟨Ho3, HV1, HV4, HG1, HC9, HO⟩
  iapply (bind_run c _ _ _)
  iapply (part9 xs K c (scal f2) (w8 w) _ _ _ _ _ _)
  isplitl [HG1 Hw8 Ho4 HR2 HR7 HO]
  · isplitl [HG1]; · iexact HG1
    isplitl [Hw8]; · iexact Hw8
    isplitl [Ho4]; · iexact Ho4
    isplitl [HR2]; · iexact HR2
    isplitl [HR7]; · iexact HR7
    isplitr; · iexact Hlev
    iexact HO
  iintro ⟨HG1, Hw8, Ho4, HV2, HV7, HJ1, HO⟩
  iapply (bind_run c _ _ _)
  iapply (part10 xs K c (scal f2) (w8 w) _ _ _ _ _)
  isplitl [Ho5 HR5 HR8 Hw8 HO]
  · isplitl [Ho5]; · iexact Ho5
    isplitl [HR5]; · iexact HR5
    isplitl [HR8]; · iexact HR8
    isplitr; · iexact Hlev
    isplitl [Hw8]; · iexact Hw8
    iexact HO
  iintro ⟨Ho5, HV5, HV8, HJ2, Hw8, HO⟩
  iapply (bind_run c _ _ _)
  iapply (part11 xs K c (scal f2) (w8 w) _ _ _)
  isplitl [Ho6 Ho7 HR9 Hw8 HN0 HN1 HC0 HC1 HO]
  · isplitl [Ho6]; · iexact Ho6
    isplitl [Ho7]; · iexact Ho7
    isplitl [HR9]; · iexact HR9
    isplitr; · iexact Hlev
    isplitl [Hw8]; · iexact Hw8
    isplitl [HN0]; · iexact HN0
    isplitl [HN1]; · iexact HN1
    isplitl [HC0]; · iexact HC0
    isplitl [HC1]; · iexact HC1
    iexact HO
  iintro ⟨Ho6, Ho7, HG9, HV9, Hw8, HL0, HU0, HL1, HU1, HO⟩
  iapply (bind_run c _ _ _)
  iapply (part12 xs K c _)
  isplitl [HN2 HN3 HN4 HN5 HN6 HN7 HC2 HC3 HC4 HC5 HC6 HC7 HO]
  · isplitl [HN2]; · iexact HN2
    isplitl [HN3]; · iexact HN3
    isplitl [HN4]; · iexact HN4
    isplitl [HN5]; · iexact HN5
    isplitl [HN6]; · iexact HN6
    isplitl [HN7]; · iexact HN7
    isplitl [HC2]; · iexact HC2
    isplitl [HC3]; · iexact HC3
    isplitl [HC4]; · iexact HC4
    isplitl [HC5]; · iexact HC5
    isplitl [HC6]; · iexact HC6
    isplitl [HC7]; · iexact HC7
    iexact HO
  iintro ⟨HL2, HU2, HL3, HU3, HL4, HU4, HL5, HU5, HL6, HU6, HL7, HU7, HO⟩
  simp only [lift_bind, op_bind, ret_bind, pure_eq]
  icases HO with ⟨%U8, HO⟩
  iapply (run_sent xs K 8 c (sz := S64x4096.size) rfl rfl (W := U8)) $$ [HN8 HC8 HO]
  · isplitl [HN8]; · iexact HN8
    isplitl [HC8]; · iexact HC8
    iexact HO
  iintro ⟨HL8, HU8, HO⟩
  icases HO with ⟨%U9, HO⟩
  iapply (run_sent xs K 9 c (sz := S512x4096.size) rfl rfl (W := U9)) $$ [HN9 HC9 HO]
  · isplitl [HN9]; · iexact HN9
    isplitl [HC9]; · iexact HC9
    iexact HO
  iintro ⟨HL9, HU9, HO⟩
  iapply (run_ret c _ Kt)
  iapply Hk
  unfold bodyPost rested
  rw [bigSep_ten, bigSep_ten]
  isplitl [HVb]; · iexact HVb
  isplitl [HU0 HV0 HU1 HV1 HU2 HV2 HU3 HV3 HU4 HV4 HU5 HV5 HU6 HV6 HU7 HV7 HU8 HV8 HU9 HV9]
  · isplitl [HU0 HU1 HU2 HU3 HU4 HU5 HU6 HU7 HU8 HU9]
    · isplitl [HU0]; · iexact HU0
      isplitl [HU1]; · iexact HU1
      isplitl [HU2]; · iexact HU2
      isplitl [HU3]; · iexact HU3
      isplitl [HU4]; · iexact HU4
      isplitl [HU5]; · iexact HU5
      isplitl [HU6]; · iexact HU6
      isplitl [HU7]; · iexact HU7
      isplitl [HU8]; · iexact HU8
      iexact HU9
    isplitl [HV0]; · iexact HV0
    isplitl [HV1]; · iexact HV1
    isplitl [HV2]; · iexact HV2
    isplitl [HV3]; · iexact HV3
    isplitl [HV4]; · iexact HV4
    isplitl [HV5]; · iexact HV5
    isplitl [HV6]; · iexact HV6
    isplitl [HV7]; · iexact HV7
    isplitl [HV8]; · iexact HV8
    iexact HV9
  isplitl [Hx]; · iexact Hx
  isplitl [Hw]; · iexact Hw
  isplitl [Hs]; · iexact Hs
  isplitl [Ho0 Ho1 Ho2 Ho3 Ho4 Ho5 Ho6 Ho7]
  · rw [out_blocks, bigSep_devs c]
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitr [Hw8 HO]
  · iexists (GX xs)
    rw [gx_blocks, bigSep_devs c]
    isplitl [Hg HL0 HL3 HL6]
    · iapply (share3 xs c).2
      isplitl [Hg]; · iexact Hg
      isplitl [HL0]; · iexact HL0
      isplitl [HL3]; · iexact HL3
      iexact HL6
    isplitl [HG0 HL1 HT1 HL7 HT7]
    · iapply (share2 xs 1 7 (lf c) c rfl rfl rfl rfl).2
      isplitl [HG0]; · iexact HG0
      isplitl [HL1 HT1]
      · isplitl [HL1] <;> iassumption
      isplitl [HL7] <;> iassumption
    isplitl [HG3 HL4 HT4 HL8 HT8]
    · iapply (share2 xs 4 8 (rt c) c rfl rfl rfl rfl).2
      isplitl [HG3]; · iexact HG3
      isplitl [HL4 HT4]
      · isplitl [HL4] <;> iassumption
      isplitl [HL8] <;> iassumption
    isplitl [HG6 HL2 HT2 HL5 HT5]
    · iapply (share2 xs 2 5 (pt c) c rfl rfl rfl rfl).2
      isplitl [HG6]; · iexact HG6
      isplitl [HL2 HT2]
      · isplitl [HL2] <;> iassumption
      isplitl [HL5] <;> iassumption
    isplitl [HG1 HL9]
    · iapply (share1 xs c).2
      isplitl [HG1] <;> iassumption
    isplitl [HJ1]; · iexact HJ1
    isplitl [HJ2]; · iexact HJ2
    iexact HG9
  isplitl [Hw8]; · iexists (w8 w); iexact Hw8
  iexact HO

end Whole

end Cert.KernelIdeal.Gather
-- ==== Proof.KernelIdeal.Region.lean ====
/- The kernel's region: what each window holds, the body under the pipeline, the region as a whole. -/
module

public import proofs.«01_k».proof.Proof.KernelIdeal.Whole
public import Idealize.ShloMosaic.Lib.Pipeline.Regions
public import Idealize.ShloMosaic.Lib.Pipeline.Value
public import Idealize.ShloMosaic.Harness.Basic

@[expose] public section

set_option maxRecDepth 65536

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## What is staged, and the result -/

/-- Each device's staged shard, -/
def xs (c : Dev nD) : Vec F S512x4096 .fp8e4m3 := iblk m c 0 t0_0
/-- its columns of the weight, -/
def wv (c : Dev nD) : Vec F S4096x1024 .fp8e4m3 := iblk m c 1 t0_0
/-- its product of the two scales, -/
def sv (c : Dev nD) : Vec F S1x1 .f32 := iblk m c 2 t0_0
/-- and its result. -/
def res (c : Dev nD) : Vec F S4096x1024 .f32 := OUT (xs m) (w8 (wv m c)) (scal (sv m c))

/-! ## The buffers outside the kernel -/

/-- The arrays of the program. -/
def bufs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- The arrays at launch, where the kernel is called, and after it. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) (Proc.devRef .tc main_v3) (res m c)

theorem V₁_eq (c : Dev nD) (b : Ref sig .tc) : V₁ m c (Proc.devRef .tc b) = V m c b := rfl
theorem V₂_res (c : Dev nD) : V₂ m c (Proc.devRef .tc main_v3) = res m c := Function.update_self ..
theorem V₂_ne (c : Dev nD) {b : DevRef τ sig} (h : b ≠ Proc.devRef .tc main_v3) : V₂ m c b = V₁ m c b := Function.update_of_ne h ..

/-! ## The kernel's own semaphores -/

/-- The two semaphores of each transfer. -/
abbrev osem : Fin 2 × Fin 10 → SemLoc sig := fun k => match k.1 with | 0 => .dma (sendS k.2) | 1 => .dma (recvS k.2)

theorem osem_facts : Pipeline.OwnSemFacts spec0 osem := by decide +kernel

theorem ownSems_eq (c : Dev nD) : (Pipeline.ownSems0 osem c : sProp 𝕄) = rested (F := F) c := by
  unfold Pipeline.ownSems0 rested
  rw [bigSep_univ_prod, BI.bigSep_fin_two]
  rfl

/-! ## The proof data -/

/-- The two scratch arrays, at contents not chosen. -/
def scratch (c : Dev nD) : sProp 𝕄 :=
  iprop((∃ f, gxP (F := F) c Finset.univ fullShare f) ∗ (∃ f, bufP (F := F) c cc0_scratch1 f))

/-- What the kernel starts with. -/
def Xk (c : Dev nD) : sProp 𝕄 := iprop((∃ K, rights (xs m) K c) ∗ levAts L lv)

/-- The pipeline's data: the inputs stay, the result is `res`; before the body the rights and the debt, after it the
    counters at zero and no debt. -/
def dat (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => res m c
  Φ t := if t.val = 0 then iprop(Xk m c ∗ scratch c ∗ ∃ r, prngReg c r)
    else iprop(semVal (barCell c) 0 ∗ rested c ∗ scratch c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem dat_A (c : Dev nD) (w : Fin cfg0.W) : (dat m c).A w = V m c (Pipeline.arrRef spec0 w) := rfl
theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = res m c := by dsimp only [dat]

theorem before0 (c : Dev nD) (t : Fin cfg0.N) (d) : (dat m c).before 0 t d = iblk m c 0 t :=
  ((dat m c).before_in_eq_fetched 0 rfl (fun _ => rfl) (fun _ _ _ => rfl) (fun t => by rw [after0]; unfold Dat.blockOf iblk; rw [dat_A]; try rfl) t d).trans
    (by unfold Dat.fetched Dat.blockOf iblk; rw [dat_A]; try rfl)
theorem before1 (c : Dev nD) (t : Fin cfg0.N) (d) : (dat m c).before 1 t d = iblk m c 1 t :=
  ((dat m c).before_in_eq_fetched 1 rfl (fun _ => rfl) (fun _ _ _ => rfl) (fun t => by rw [after1]; unfold Dat.blockOf iblk; rw [dat_A]; try rfl) t d).trans
    (by unfold Dat.fetched Dat.blockOf iblk; rw [dat_A]; try rfl)
theorem before2 (c : Dev nD) (t : Fin cfg0.N) (d) : (dat m c).before 2 t d = iblk m c 2 t :=
  ((dat m c).before_in_eq_fetched 2 rfl (fun _ => rfl) (fun _ _ _ => rfl) (fun t => by rw [after2]; unfold Dat.blockOf iblk; rw [dat_A]; try rfl) t d).trans
    (by unfold Dat.fetched Dat.blockOf iblk; rw [dat_A]; try rfl)

theorem Φ_first (c : Dev nD) : (dat m c).Φ t0_0.castSucc = iprop(Xk m c ∗ scratch c ∗ ∃ r, prngReg c r) := rfl
theorem Φ_last (c : Dev nD) : (dat m c).Φ t0_0.succ = iprop(semVal (barCell c) 0 ∗ rested c ∗ scratch c ∗ ∃ r, prngReg c r) := rfl
theorem owed_first (c : Dev nD) : (dat m c).owed t0_0.castSucc = O₀ c := rfl
theorem owed_last (c : Dev nD) : (dat m c).owed t0_0.succ = 0 := rfl

theorem debt_out (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO
theorem debt_in (c : Dev nD) (t : Fin (cfg0.N + 1)) (O : CellTallies nD τ sig Unit) (h : (dat m c).owed t = O) :
    iprop(∃ W, owes (c : Thread nD τ) O W) ⊢ ((dat m c).owesAt () t : sProp 𝕄) := by
  unfold Dat.owesAt Pipeline.owesWithin Dat.bound; rw [h]
  iintro ⟨%W, HO⟩; iexists W; isplitr
  · ipureintro; exact fun _ _ => Or.inl trivial
  iexact HO

/-- A staging buffer, held as the pipeline holds it and as the body does. -/
theorem stg0 (c : Dev nD) (f : Vec F S512x4096 .fp8e4m3) : (owns (c : Thread nD τ) (stage0_0 0) fullShare f : sProp 𝕄) = bufP c cc0_stg0_0 f := owns_whole ..
theorem stg1 (c : Dev nD) (f : Vec F S4096x1024 .fp8e4m3) : (owns (c : Thread nD τ) (stage0_1 0) fullShare f : sProp 𝕄) = bufP c cc0_stg1_0 f := owns_whole ..
theorem stg2 (c : Dev nD) (f : Vec F S1x1 .f32) : (owns (c : Thread nD τ) (stage0_2 0) fullShare f : sProp 𝕄) = bufP c cc0_stg2_0 f := owns_whole ..
theorem stg3 (c : Dev nD) (f : Vec F S4096x1024 .f32) : (owns (c : Thread nD τ) (stage0_3 0) fullShare f : sProp 𝕄) = outP c Finset.univ f := owns_whole ..

/-- The body under the pipeline. -/
theorem body_obligation (c : Dev nD) : BodyObligation (dat m c) (defs₀ (F := F)) 𝒱₀ () Set.univ := fun t => by
  obtain rfl : t = t0_0 := fin_N0 t
  rw [bigSep_W0, bigSep_W0]
  sl_whnfR [defs₀, Defs.onTc]
  simp only [before0, before1, before2]
  rw [Φ_first, Φ_last, after0, after1, after2, after3]
  unfold Xk
  iintro ⟨⟨⟨⟨%K, Hg⟩, #Hlev⟩, Hsc, Hp⟩, HO, ⟨%d0, H0⟩, ⟨%d1, H1⟩, ⟨%d2, H2⟩, ⟨%d3, H3⟩⟩
  ihave HO := (debt_out m c _ (O₀ c) (owed_first m c)) $$ HO
  unfold scratch
  icases Hsc with ⟨Hgx, Hw8⟩
  iapply (bodyRun (xs m) K c (wv m c) (sv m c) _)
  isplitr [Hp]
  · unfold bodyPre
    isplitl [Hg]; · iexact Hg
    isplitr; · iexact Hlev
    isplitl [H0]; · iapply (Entails.of_eq (stg0 c _)) $$ H0
    isplitl [H1]; · iapply (Entails.of_eq (stg1 c _)) $$ H1
    isplitl [H2]; · iapply (Entails.of_eq (stg2 c _)) $$ H2
    isplitl [H3]; · iexists _; iapply (Entails.of_eq (stg3 c _)) $$ H3
    isplitl [Hgx]; · iexact Hgx
    isplitl [Hw8]; · iexact Hw8
    iexact HO
  unfold bodyPost
  iintro ⟨Hb, Hr, H0, H1, H2, H3, Hgx, Hw8, HO⟩
  isplitl [Hb Hr Hgx Hw8 Hp]
  · isplitl [Hb]; · iexact Hb
    isplitl [Hr]; · iexact Hr
    isplitl [Hgx Hw8]
    · isplitl [Hgx]; · iexact Hgx
      iexact Hw8
    iexact Hp
  isplitl [HO]; · iapply (debt_in m c _ 0 (owed_last m c)) $$ HO
  isplitl [H0]; · iapply (Entails.of_eq (stg0 c _).symm) $$ H0
  isplitl [H1]; · iapply (Entails.of_eq (stg1 c _).symm) $$ H1
  isplitl [H2]; · iapply (Entails.of_eq (stg2 c _).symm) $$ H2
  iapply (Entails.of_eq (stg3 c _).symm) $$ H3

end Cert.KernelIdeal.Gather
-- ==== Proof.KernelIdeal.Arrays.lean ====
/- The pipeline's windows are the whole arrays. -/
module

public import proofs.«01_k».proof.Proof.KernelIdeal.Region

@[expose] public section

set_option maxRecDepth 65536

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)

variable {F : FTy → Type} [FloatOps F]
variable (m : (ℓ : Loc nD τ sig) → Buf (Elt F) ℓ)

theorem emb0 (i : S512x4096.Idx) : ((cfg0.win 0).blk t0_0).view.emb i = i := by
  funext a; apply Fin.ext
  show 0 * S512x4096.size a + 1 * (i a).1 = (i a).1
  omega
theorem emb1 (i : S4096x1024.Idx) : ((cfg0.win 1).blk t0_0).view.emb i = i := by
  funext a; apply Fin.ext
  show 0 * S4096x1024.size a + 1 * (i a).1 = (i a).1
  omega
theorem emb2 (i : S1x1.Idx) : ((cfg0.win 2).blk t0_0).view.emb i = i := by
  funext a; apply Fin.ext
  show 0 * S1x1.size a + 1 * (i a).1 = (i a).1
  omega
theorem emb3 (i : S4096x1024.Idx) : ((cfg0.win 3).blk t0_0).view.emb i = i := by
  funext a; apply Fin.ext
  show 0 * S4096x1024.size a + 1 * (i a).1 = (i a).1
  omega

/-- What is staged is the arrays as the kernel finds them. -/
theorem xs_eq (c : Dev nD) : xs m c = V m c main_arg0 := by
  funext i
  show V m c main_arg0 (((cfg0.win 0).blk t0_0).view.emb i) = _
  rw [emb0]
theorem wv_eq (c : Dev nD) : wv m c = V m c main_arg1 := by
  funext i
  show V m c main_arg1 (((cfg0.win 1).blk t0_0).view.emb i) = _
  rw [emb1]
theorem sv_eq (c : Dev nD) : sv m c = V m c main_v2 := by
  funext i
  show V m c main_v2 (((cfg0.win 2).blk t0_0).view.emb i) = _
  rw [emb2]

/-- The result's array ends holding the result. -/
theorem final (c : Dev nD) : (dat m c).arrAt 3 cfg0.N = res m c :=
  (dat m c).arrAt_eq_of_cover 3 (res m c)
    (fun t _ => by
      obtain rfl : t = t0_0 := fin_N0 t
      funext i
      show (dat m c).after 3 t0_0 i = res m c (((cfg0.win 3).blk t0_0).view.emb i)
      rw [after3, emb3])
    (fun i => ⟨t0_0, flush0_3 _, by
      have h := View.emb_mem_set ((cfg0.win 3).blk t0_0).view i
      rw [emb3] at h; exact h⟩)

end Cert.KernelIdeal.Gather
-- ==== Proof.KernelIdeal.Launch.lean ====
/- The launch: every cell set up, every right dealt, and the run of the whole program. -/
module

public import proofs.«01_k».proof.Proof.KernelIdeal.Arrays

@[expose] public section

set_option maxRecDepth 65536

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The cells and the tokens -/

theorem sendS_inj : Function.Injective sendS := by decide +kernel
theorem recvS_inj : Function.Injective recvS := by decide +kernel
theorem osem_inj : Function.Injective osem := osem_facts.inj
theorem osem_ne_bar : ∀ k, osem k ≠ .reg barS := by decide +kernel

def barEmb : Dev nD ↪ GSem nD τ sig := ⟨fun c => barCell c, fun _ _ h => congrArg (fun g : GSem nD τ sig => g.1.1) h⟩
def scEmb : Dev nD × (Fin 2 × Fin 10) ↪ GSem nD τ sig :=
  ⟨fun k => ((k.1 : Thread nD τ), osem k.2), fun _ _ h =>
    Prod.ext (congrArg (fun g : GSem nD τ sig => g.1.1) h) (osem_inj (congrArg Prod.snd h))⟩

/-- The barrier cells, which exist from the launch on; the transfers' cells, opened inside the kernel. -/
abbrev barCells : Finset (GSem nD τ sig) := Finset.univ.map barEmb
abbrev scCells : Finset (GSem nD τ sig) := Finset.univ.map scEmb

/-- A cell's token of a duty. -/
abbrev Tok : Type := GSem nD τ sig × ℕ × Fin 3
def tokB : Dev nD × Fin 3 ↪ Tok :=
  ⟨fun k => (barCell k.1, 0, k.2), fun _ _ h =>
    Prod.ext (congrArg (fun t : Tok => t.1.1.1) h) (congrArg (fun t : Tok => t.2.2) h)⟩
def tokS : Dev nD × (Fin 2 × Fin 10) ↪ Tok :=
  ⟨fun k => (scEmb k, 0, 0), fun _ _ h => scEmb.injective (congrArg (fun t : Tok => t.1) h)⟩
def toks : Finset Tok := Finset.univ.map tokB ∪ Finset.univ.map tokS

theorem cells_disjoint : Disjoint (barCells : Finset (GSem nD τ sig)) scCells := by
  rw [Finset.disjoint_left]
  rintro g h₁ h₂
  obtain ⟨c, -, rfl⟩ := Finset.mem_map.mp h₁
  obtain ⟨k, -, h⟩ := Finset.mem_map.mp h₂
  exact osem_ne_bar k.2 (congrArg Prod.snd h)
theorem toks_disjoint : Disjoint (Finset.univ.map tokB) (Finset.univ.map tokS) := by
  rw [Finset.disjoint_left]
  rintro g h₁ h₂
  obtain ⟨c, -, rfl⟩ := Finset.mem_map.mp h₁
  obtain ⟨k, -, h⟩ := Finset.mem_map.mp h₂
  exact osem_ne_bar k.2 (congrArg (fun t : Tok => t.1.2) h)

theorem bar_mem (c : Dev nD) : barCell c ∈ (barCells ∪ scCells : Finset (GSem nD τ sig)) :=
  Finset.mem_union_left _ (Finset.mem_map_of_mem barEmb (Finset.mem_univ c))
theorem send_mem (j : Fin 10) (c : Dev nD) : sendCell j c ∈ (barCells ∪ scCells : Finset (GSem nD τ sig)) :=
  Finset.mem_union_right _ (Finset.mem_map_of_mem scEmb (Finset.mem_univ (c, ((0 : Fin 2), j))))
theorem recv_mem (j : Fin 10) (c : Dev nD) : recvCell j c ∈ (barCells ∪ scCells : Finset (GSem nD τ sig)) :=
  Finset.mem_union_right _ (Finset.mem_map_of_mem scEmb (Finset.mem_univ (c, ((1 : Fin 2), j))))

/-- What every device may consult: every cell's invariant, and that round 0 of every barrier cell has begun. -/
def records (κ : GSem nD τ sig → ℕ) : sProp 𝕄 :=
  iprop((bigSep (barCells ∪ scCells) fun g => cellInv ER (sched (xs m)) (κ g) g) ∗ bigSep barCells fun g => reached ER g 0)
instance records_persistent (κ : GSem nD τ sig → ℕ) : BI.Persistent (records m κ) := by unfold records; infer_instance

theorem records_inv (κ : GSem nD τ sig → ℕ) {g : GSem nD τ sig} (hg : g ∈ (barCells ∪ scCells : Finset (GSem nD τ sig))) :
    records m κ ⊢ cellInv ER (sched (xs m)) (κ g) g := by
  have h : (bigSep (barCells ∪ scCells) fun g => (cellInv ER (sched (xs m)) (κ g) g : sProp 𝕄)) ⊢ cellInv ER (sched (xs m)) (κ g) g := bigSep_elim hg
  unfold records; iintro ⟨H, -⟩
  iapply h $$ H
theorem records_bar (κ : GSem nD τ sig → ℕ) (c : Dev nD) : records m κ ⊢ reached ER (barCell c) 0 := by
  have h : (bigSep barCells fun g => (reached ER g 0 : sProp 𝕄)) ⊢ reached ER (barCell c) 0 := bigSep_elim (Finset.mem_map_of_mem barEmb (Finset.mem_univ c))
  unfold records; iintro ⟨-, H⟩
  iapply h $$ H

/-- What is `c`'s alone: its place at its barrier cell, the rights to open its cells, the tokens of the duties it pays. -/
def alone (c : Dev nD) : sProp 𝕄 :=
  iprop(atPos ER (barCell c) 0 ∅ 0
    ∗ ((bigSep Finset.univ fun j => openTok ER (sendCell j c)) ∗ bigSep Finset.univ fun j => openTok ER (recvCell j c))
    ∗ (bigSep Finset.univ fun d => dutyTok ER (barCell ((nbE d).symm c)) 0 d)
    ∗ (bigSep Finset.univ fun j => dutyTok ER (sendCell j c) 0 (0 : Fin 3))
    ∗ bigSep Finset.univ fun j => dutyTok ER (recvCell j (dst j c)) 0 (0 : Fin 3))
/-- The credits of what others owe it. -/
def dues (c : Dev nD) : sProp 𝕄 :=
  iprop(cred (tallyAt (barCell c) () 3) ∗ bigSep Finset.univ fun j => cred (tallyAt (recvCell j c) () (N j)))

/-! ## Opening the transfers' cells -/

theorem open_all (κ : GSem nD τ sig → ℕ) (s : Fin 10 → GSem nD τ sig) (hs : ∀ j, s j ∈ (barCells ∪ scCells : Finset (GSem nD τ sig))) :
    iprop(records m κ ∗ (bigSep Finset.univ fun j => openTok ER (s j)) ∗ bigSep Finset.univ fun j => semVal (s j) 0)
      ⊢ (|={Set.univ}=> ((bigSep Finset.univ fun j => atPos ER (s j) 0 ∅ 0) ∗ bigSep Finset.univ fun j => reached ER (s j) 0) : sProp 𝕄) := by
  have one : ∀ j ∈ (Finset.univ : Finset (Fin 10)), iprop(records m κ ∗ (openTok ER (s j) ∗ semVal (s j) 0))
      ⊢ (|={Set.univ}=> (atPos ER (s j) 0 ∅ 0 ∗ reached ER (s j) 0) : sProp 𝕄) := fun j _ => by
    iintro ⟨#HR, Ho, Hv⟩
    iapply (Rounds.cell_open ER (sched (xs m)) (g := s j) (Set.mem_univ (κ (s j))))
    isplitr; · iapply (records_inv m κ (hs j)) $$ HR
    isplitl [Ho] <;> iassumption
  have all := (bigSep_with_persistent one).trans (bigSep_fupd _ _)
  rw [bigSep_sep', bigSep_sep'] at all
  exact all

/-- With its cells open a device has all its rights. -/
theorem rights_intro (κ : GSem nD τ sig → ℕ) (c : Dev nD) :
    iprop(records m κ ∗ alone c ∗ dues c ∗ rested (F := F) c) ⊢ (|={Set.univ}=> rights (xs m) κ c : sProp 𝕄) := by
  unfold alone dues rested rights Br
  iintro ⟨#HR, ⟨Hat, ⟨HoS, HoR⟩, HtB, HtS, HtR⟩, ⟨HcB, HcR⟩, HvS, HvR⟩
  imod (open_all m κ (fun j => sendCell j c) (fun j => send_mem j c)) $$ [HoS HvS] with ⟨HaS, #HrS⟩
  · isplitr; · iexact HR
    isplitl [HoS] <;> iassumption
  imod (open_all m κ (fun j => recvCell j c) (fun j => recv_mem j c)) $$ [HoR HvR] with ⟨HaR, #HrR⟩
  · isplitr; · iexact HR
    isplitl [HoR] <;> iassumption
  imodintro
  isplitl [Hat HcB]
  · isplitr; · iapply (records_inv m κ (bar_mem c)) $$ HR
    isplitl [Hat] <;> iassumption
  isplitl [HtB]
  · have sg : iprop(records m κ ∗ bigSep Finset.univ fun d => dutyTok ER (barCell ((nbE d).symm c)) 0 d)
        ⊢ (bigSep Finset.univ fun d => Sg (xs m) κ d c : sProp 𝕄) := bigSep_with_persistent fun d _ => by
      unfold Sg
      iintro ⟨#HR, Ht⟩
      isplitr; · iapply (records_inv m κ (bar_mem _)) $$ HR
      isplitr; · iapply (records_bar m κ _) $$ HR
      iexact Ht
    have three : (bigSep Finset.univ fun d => Sg (xs m) κ d c : sProp 𝕄) = iprop(Sg (xs m) κ 0 c ∗ Sg (xs m) κ 1 c ∗ Sg (xs m) κ 2 c) :=
      bigSep_univ_eq_bigSepL [0, 1, 2] (by decide) (by decide) _
    rw [three] at sg
    iapply sg
    isplitr; · iexact HR
    iexact HtB
  isplitl [HtS HtR]
  · have xf : iprop(iprop(records m κ ∗ bigSep Finset.univ fun j => reached ER (sendCell j c) 0)
          ∗ bigSep Finset.univ fun j => iprop(dutyTok ER (sendCell j c) 0 (0 : Fin 3) ∗ dutyTok ER (recvCell j (dst j c)) 0 (0 : Fin 3)))
        ⊢ (bigSep Finset.univ fun j => Xf (xs m) κ j c : sProp 𝕄) := bigSep_with_persistent fun j hj => by
      have hr : (bigSep Finset.univ fun j => (reached ER (sendCell j c) 0 : sProp 𝕄)) ⊢ reached ER (sendCell j c) 0 := bigSep_elim hj
      unfold Xf
      iintro ⟨⟨#HR, #Hr⟩, Ht, Ht'⟩
      isplitr; · iapply (records_inv m κ (send_mem j c)) $$ HR
      isplitr; · iapply (records_inv m κ (recv_mem j _)) $$ HR
      isplitl [Ht]; · iexact Ht
      isplitr; · iapply hr $$ Hr
      iexact Ht'
    rw [bigSep_sep'] at xf
    iapply xf
    isplitr
    · isplitr; · iexact HR
      iexact HrS
    isplitl [HtS] <;> iassumption
  isplitl [HaR HcR]
  · have rc : iprop(records m κ ∗ bigSep Finset.univ fun j => iprop(atPos ER (recvCell j c) 0 ∅ 0 ∗ cred (tallyAt (recvCell j c) () (N j))))
        ⊢ (bigSep Finset.univ fun j => Rc (xs m) κ j c : sProp 𝕄) := bigSep_with_persistent fun j _ => by
      unfold Rc
      iintro ⟨#HR, Ha, Hc⟩
      isplitr; · iapply (records_inv m κ (recv_mem j c)) $$ HR
      isplitl [Ha] <;> iassumption
    rw [bigSep_sep'] at rc
    iapply rc
    isplitr; · iexact HR
    isplitl [HaR] <;> iassumption
  isplitl [HaS]
  · have sn : iprop(records m κ ∗ bigSep Finset.univ fun j => atPos ER (sendCell j c) 0 ∅ 0)
        ⊢ (bigSep Finset.univ fun j => Sn (xs m) κ j c : sProp 𝕄) := bigSep_with_persistent fun j _ => by
      unfold Sn
      iintro ⟨#HR, Ha⟩
      isplitr; · iapply (records_inv m κ (send_mem j c)) $$ HR
      iexact Ha
    iapply sn
    isplitr; · iexact HR
    iexact HaS
  iexact HrR

/-! ## What each device is owed -/

theorem cell_dev {c d : Dev nD} {s t : SemLoc sig} (h : ((c : Thread nD τ), s) = ((d : Thread nD τ), t)) : c = d ∧ s = t :=
  ⟨congrArg (fun g : GSem nD τ sig => g.1.1) h, congrArg Prod.snd h⟩

theorem owe_recv (j : Fin 10) (d c : Dev nD) : ∀ l : List (Fin 10), l.Nodup →
    owe l d (recvCell j c) () = if d = src j c then (if j ∈ l then N j else 0) else 0
  | [], _ => by simp [owe]
  | k :: l, h => by
    have e : owe (k :: l) d (recvCell j c) () = owe l d (recvCell j c) () + tallyAt (recvCell k (dst k d)) () (N k) (recvCell j c) () := rfl
    rw [e, owe_recv j d c l (List.nodup_cons.mp h).2, tallyAt_apply]
    have hne : j ≠ k → ¬(recvCell j c = recvCell k (dst k d) ∧ () = ()) := fun hk hh => hk (recvS_inj (by simpa using (cell_dev hh.1).2))
    by_cases hk : j = k
    · subst hk
      by_cases hd : d = src j c
      · subst hd
        rw [if_pos rfl, if_neg (List.nodup_cons.mp h).1, if_pos ⟨by rw [dst_src], rfl⟩, if_pos rfl, if_pos List.mem_cons_self, Nat.zero_add]
      · rw [if_neg hd, if_neg hd, Nat.zero_add]
        exact if_neg fun hh => hd (by have := (cell_dev hh.1).1; rw [this, src_dst])
    · rw [if_neg (hne hk), Nat.add_zero]
      have : (j ∈ k :: l) = (j ∈ l) := by rw [List.mem_cons]; exact propext ⟨fun h => h.resolve_left hk, Or.inr⟩
      simp only [this]

theorem order_all : ∀ j, j ∈ order := by decide
theorem barUnit_recv (e : Fin 3) (j : Fin 10) (d c : Dev nD) : barUnit e d (recvCell j c) () = 0 := by
  rw [tallyAt_apply, if_neg]; intro h; exact absurd (cell_dev h.1).2 (by simp)

theorem O₀_recv (j : Fin 10) (d c : Dev nD) : O₀ d (recvCell j c) () = if d = src j c then N j else 0 := by
  have e : O₀ d (recvCell j c) () = ((owe order d (recvCell j c) () + barUnit 2 d (recvCell j c) ()) + barUnit 1 d (recvCell j c) ())
      + barUnit 0 d (recvCell j c) () := rfl
  rw [e, barUnit_recv, barUnit_recv, barUnit_recv, owe_recv j d c order (by decide), if_pos (show j ∈ order from order_all j)]
  rfl

theorem owe_bar (l : List (Fin 10)) (d c : Dev nD) : owe l d (barCell c) () = 0 := by
  by_contra h
  obtain ⟨j, -, e⟩ := owe_pos (Nat.pos_of_ne_zero h)
  exact absurd (cell_dev e).2 (by simp)
theorem barUnit_bar (e : Fin 3) (d c : Dev nD) : barUnit e d (barCell c) () = if d = nbE e c then 1 else 0 := by
  rw [tallyAt_apply]
  by_cases h : d = nbE e c
  · subst h; rw [if_pos ⟨by rw [Equiv.symm_apply_apply], rfl⟩, if_pos rfl]
  · rw [if_neg h, if_neg fun hh => h (by rw [(cell_dev hh.1).1, Equiv.apply_symm_apply])]
theorem O₀_bar (d c : Dev nD) : O₀ d (barCell c) ()
    = ((if d = nbE 2 c then 1 else 0) + (if d = nbE 1 c then 1 else 0)) + (if d = nbE 0 c then 1 else 0) := by
  have e : O₀ d (barCell c) () = ((owe order d (barCell c) () + barUnit 2 d (barCell c) ()) + barUnit 1 d (barCell c) ())
      + barUnit 0 d (barCell c) () := rfl
  rw [e, owe_bar, barUnit_bar, barUnit_bar, barUnit_bar, Nat.zero_add]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => O₀_bar d c,
    Finset.sum_add_distrib, Finset.sum_add_distrib, Finset.sum_ite_eq' Finset.univ _ fun _ => 1, Finset.sum_ite_eq' Finset.univ _ fun _ => 1,
    Finset.sum_ite_eq' Finset.univ _ fun _ => 1, if_pos (Finset.mem_univ _), if_pos (Finset.mem_univ _), if_pos (Finset.mem_univ _)]
theorem launch_recv (j : Fin 10) (c : Dev nD) :
    tallyOn (recvCell j c) (launchCredit (Pipeline.owing O₀) 0 (recvCell j c)) = (tallyAt (recvCell j c) () (N j) : CellTallies nD τ sig Unit) := by
  unfold tallyAt; refine congrArg _ (Finsupp.ext fun u => ?_); cases u
  rw [Pipeline.launchCredit_owing, Finsupp.single_eq_same, Finset.sum_congr rfl fun d _ => O₀_recv j d c,
    Finset.sum_ite_eq' Finset.univ _ fun _ => N j, if_pos (Finset.mem_univ _)]

def recvEmb : Fin 10 ↪ SemLoc sig := ⟨fun j => .dma (recvS j), fun _ _ h => recvS_inj (by simpa using h)⟩

theorem dues_intro (c : Dev nD) : (Pipeline.launchCred O₀ c : sProp 𝕄) ⊢ dues c := by
  unfold Pipeline.launchCred dues
  rw [bigSep_univ_at _ (SemLoc.reg barS), launch_bar]
  refine sep_mono_right ?_
  refine (bigSep_subset (t := Finset.univ.map recvEmb) fun s hs => ?_).trans ?_
  · obtain ⟨j, -, rfl⟩ := Finset.mem_map.mp hs
    exact Finset.mem_erase.mpr ⟨(fun h => by cases h), Finset.mem_univ _⟩
  · rw [bigSep_map]
    exact Entails.of_eq (bigSep_congr fun j _ => by rw [← launch_recv]; rfl)

end Cert.KernelIdeal.Gather
-- ==== Proof.KernelIdeal.Run.lean ====
/- The run of the whole program. -/
module

public import proofs.«01_k».proof.Proof.KernelIdeal.Launch

@[expose] public section

set_option maxRecDepth 65536

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## Dealing the tokens -/

theorem bar_tokens : (bigSep (Finset.univ.map tokB) fun x => (dutyTok ER x.1 x.2.1 x.2.2 : sProp 𝕄))
    = bigSep Finset.univ fun c : Dev nD => bigSep Finset.univ fun d => dutyTok ER (barCell c) 0 d := by
  rw [bigSep_map, bigSep_univ_prod]; rfl
theorem dma_tokens : (bigSep (Finset.univ.map tokS) fun x => (dutyTok ER x.1 x.2.1 x.2.2 : sProp 𝕄))
    = bigSep Finset.univ fun c : Dev nD => iprop((bigSep Finset.univ fun j => dutyTok ER (sendCell j c) 0 (0 : Fin 3))
        ∗ bigSep Finset.univ fun j => dutyTok ER (recvCell j c) 0 (0 : Fin 3)) := by
  rw [bigSep_map, bigSep_univ_prod]
  refine bigSep_congr fun c _ => ?_
  rw [bigSep_univ_prod, BI.bigSep_fin_two]; rfl
theorem open_tokens : (bigSep scCells fun g => (openTok ER g : sProp 𝕄))
    = bigSep Finset.univ fun c : Dev nD => iprop((bigSep Finset.univ fun j => openTok ER (sendCell j c)) ∗ bigSep Finset.univ fun j => openTok ER (recvCell j c)) := by
  rw [bigSep_map, bigSep_univ_prod]
  refine bigSep_congr fun c _ => ?_
  rw [bigSep_univ_prod, BI.bigSep_fin_two]; rfl

/-- A family over the devices, each member moved around by its own permutation. -/
theorem around {J : Type} [Fintype J] (e : J → (Dev nD ≃ Dev nD)) (Φ : J → Dev nD → sProp 𝕄) :
    (bigSep Finset.univ fun c : Dev nD => bigSep Finset.univ fun j => Φ j c)
      = bigSep Finset.univ fun c : Dev nD => bigSep Finset.univ fun j => Φ j (e j c) := by
  rw [Pipeline.bigSep_univ_comm, Pipeline.bigSep_univ_comm (fun (c : Dev nD) j => Φ j (e j c))]
  exact bigSep_congr fun j _ => bigSep_univ_equiv (e j) (Φ j)

/-! ## The two segments -/

/-- What a device brings to the kernel beside its arrays. -/
def Tk (c : Dev nD) : sProp 𝕄 := iprop((∃ κ, records m κ ∗ alone c) ∗ dues c)
/-- What rides beside the arrays up to the kernel. -/
def R (c : Dev nD) : sProp 𝕄 := iprop(Tk m c ∗ (∃ r, prngReg c r) ∗ ∃ W, owes (c : Thread nD τ) (O₀ c) W)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

theorem ops_sub : ∀ op ∈ (hostOps0 : List (HloOp τ sig (Elt F))), op.bufs ⊆ bufs := by
  intro op h
  simp only [hostOps0, List.mem_cons, List.not_mem_nil, or_false] at h
  rcases h with rfl | rfl
  · show ({Proc.devRef .tc main_arg2, Proc.devRef .tc main_arg3, Proc.devRef .tc main_v1} : Finset (DevRef τ sig)) ⊆ bufs; decide
  · show ({Proc.devRef .tc main_v1, Proc.devRef .tc main_v2} : Finset (DevRef τ sig)) ⊆ bufs; decide
theorem ops_fresh : ∀ op ∈ (hostOps0 : List (HloOp τ sig (Elt F))), op.fresh = ∅ := List.forall_iff_forall_mem.mp hostOps0_fresh

/-- The product of the scales, on the host. -/
def seg0 : ℍ := Pipeline.HostSeg.ofOps _ _ _ _ _ bufs hostOps0 ops_sub ops_fresh (V₀ m) (R m)

/-- The windows' arrays, and the other arrays. -/
abbrev winArrs : Finset (DevRef τ sig) := Pipeline.arrRefs (τ := τ) (pcfgs (F := F) 0).spec
abbrev others : Finset (DevRef τ sig) := bufs \ winArrs (F := F)

theorem kit : Pipeline.PLaunchFacts (nD := nD) (τ := τ) (pcfgs (F := F)) 0 := launch0.toP

theorem scopedRest_eq (c : Dev nD) : (Pipeline.scopedRest (Ix := Unit) (Name := ℕ) (U := UU) (Lvl := ℕ) (Val := Elt F) (Pipeline.pin (pcfgs (F := F)) adm 0).spec c : sProp 𝕄)
    = scratch (F := F) c := scopedRest0_eq c

theorem held_none (c : Dev nD) (W : Valuation τ sig (Elt F)) : (StableHlo.held (c : Thread nD τ) ∅ W : sProp 𝕄) = BI.emp := by
  unfold StableHlo.held; exact BI.bigSep_empty

theorem hopen (c : Dev nD) : iprop(Tk m c ∗ Pipeline.ownSems0 osem c ∗ levAts L lv) ⊢ (|={Set.univ}=> Xk m c : sProp 𝕄) := by
  rw [ownSems_eq]; unfold Tk Xk
  iintro ⟨⟨⟨%κ, #HR, Ha⟩, Hd⟩, Hs, #Hlev⟩
  imod (rights_intro m κ c) $$ [Ha Hd Hs] with H
  · isplitr; · iexact HR
    isplitl [Ha]; · iexact Ha
    isplitl [Hd] <;> iassumption
  imodintro
  isplitl [H]; · iexists κ; iexact H
  iexact Hlev

theorem hin (c : Dev nD) : iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [show (pdats m 0 c).Φ 0 = iprop(Xk m c ∗ scratch c ∗ ∃ r, prngReg c r) from rfl, scopedRest_eq, held_none]
  iintro ⟨Hs, Hp, -, HX⟩
  isplitl [HX]; · iexact HX
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ semVal (barCell c) 0) := by
  rw [show (pdats m 0 c).Φ (Fin.last _) = iprop(semVal (barCell c) 0 ∗ rested c ∗ scratch c ∗ ∃ r, prngReg c r) from rfl,
    scopedRest_eq, held_none, ownSems_eq]
  iintro ⟨Hb, Hr, Hs, Hp⟩
  isplitl [Hs]; · iexact Hs
  isplitl [Hp]; · iexact Hp
  isplitr; · iempintro
  isplitl [Hr] <;> iassumption

theorem O₀_pos {c : Dev nD} {g : GSem nD τ sig} {u : Unit} (h : 0 < O₀ c g u) :
    (∃ j d, g = recvCell j d) ∨ ∃ d, g = barCell d := by
  have e : O₀ c g u = ((owe order c g u + barUnit 2 c g u) + barUnit 1 c g u) + barUnit 0 c g u := rfl
  rw [e] at h
  have unit (d : Fin 3) (hd : 0 < barUnit d c g u) : ∃ d, g = barCell d := by
    rw [tallyAt_apply] at hd
    split at hd
    · next hg => exact ⟨_, hg.1⟩
    · exact absurd hd (Nat.lt_irrefl 0)
  rcases Nat.add_pos_iff_pos_or_pos.mp h with h | h
  · rcases Nat.add_pos_iff_pos_or_pos.mp h with h | h
    · rcases Nat.add_pos_iff_pos_or_pos.mp h with h | h
      · obtain ⟨j, -, hg⟩ := owe_pos h; exact .inl ⟨j, _, hg⟩
      · exact .inr (unit 2 h)
    · exact .inr (unit 1 h)
  · exact .inr (unit 0 h)

theorem lvR_pos : ∀ j, 0 < lvR j := by decide
theorem cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · rcases O₀_pos h with ⟨j, d, rfl⟩ | ⟨d, rfl⟩
    · exact ⟨by rw [L_tc]; exact Finset.mem_singleton_self _, by show 0 < lvS _; rw [lvS_recv]; exact lvR_pos j⟩
    · exact ⟨by rw [L_tc]; exact Finset.mem_singleton_self _, Nat.one_pos⟩
  · exact absurd h (Nat.lt_irrefl 0)

theorem staging_level : ∀ (w : Fin 4) (s : Fin (win0 w).nbuf), lvS (.dma ((win0 w).sem s)) = 0 := by decide +kernel

theorem share_full (c : Dev nD) (w) : (pdats m 0 c).share w = fullShare := (dat m c).share_full (fun _ => rfl) w

theorem entry (c : Dev nD) (w : Fin 4) : (dat m c).arrAt w 0 = V₁ m c (Proc.devRef .tc (Pipeline.arrRef spec0 w)) := rfl
theorem exit (c : Dev nD) : ∀ w : Fin 4, (dat m c).arrAt w cfg0.N = V₂ m c (Proc.devRef .tc (Pipeline.arrRef spec0 w))
  | 0 => ((dat m c).arrAt_in 0 rfl _).trans (V₂_ne m c (b := Proc.devRef .tc main_arg0) (by decide)).symm
  | 1 => ((dat m c).arrAt_in 1 rfl _).trans (V₂_ne m c (b := Proc.devRef .tc main_arg1) (by decide)).symm
  | 2 => ((dat m c).arrAt_in 2 rfl _).trans (V₂_ne m c (b := Proc.devRef .tc main_v2) (by decide)).symm
  | 3 => (final m c).trans (V₂_res m c).symm

theorem arr_mem : (Proc.devRef .tc main_v3 : DevRef τ sig) ∈ winArrs (F := F) := by
  refine Finset.mem_map.mpr ⟨main_v3, Finset.mem_image.mpr ⟨3, Finset.mem_univ _, rfl⟩, rfl⟩

set_option backward.isDefEq.respectTransparency.types false in
def reg0 : ℝ𝕊 0 :=
  Pipeline.RegionSeg.ofTalk (pcfgs (F := F)) adm (pdats m) () defs₀ 𝒱₀ L lv 0 osem osem_facts
    ∅ (others (F := F)) (Finset.empty_subset _) kit rfl (fun c => (body_obligation m c).loose)
    (fun _ => 0) O₀ (fun c => (show (pdats m 0 c).owed 0 = O₀ c from rfl).trans (zero_add _).symm) (fun c => rfl) (fun _ => rfl) (share_full m)
    (V₁ m) (V₂ m) (fun c b hb => V₂_ne m c fun e => (Finset.mem_sdiff.mp (Finset.mem_sdiff.mp hb).1).2 (e ▸ arr_mem (F := F)))
    (Tk m) (fun c => semVal (barCell c) 0) (Xk m) (fun c => semVal (barCell c) 0) (hopen m) (hin m) (hout m)
    (fun c => by iintro H; imodintro; iexact H)
    (fun _ => 0)
    ⟨fun c w s => by rw [L_tc]; exact Finset.mem_singleton_self _, fun c w s => (staging_level w s).le, fun c t g i h => cut m c t g i h⟩
    (fun _ => iprop(emp))
    (entry m) (exit m)

theorem win_sub : winArrs (F := F) ⊆ bufs := by
  show Pipeline.arrRefs (τ := τ) spec0 ⊆ bufs; decide

theorem reg0_pre (c : Dev nD) : iprop(StableHlo.held (c : Thread nD τ) bufs (V₁ m c) ∗ R m c) ⊢ (reg0 m).pre c := by
  show _ ⊢ iprop(StableHlo.held (c.tc : Thread nD τ) (winArrs (F := F)) (V₁ m c) ∗ (∃ r, prngReg c r)
    ∗ (StableHlo.held (c.tc : Thread nD τ) (others (F := F)) (V₁ m c) ∗ emp) ∗ Tk m c ∗ ∃ Wd, owes (c : Thread nD τ) (0 + O₀ c) Wd)
  rw [zero_add, StableHlo.held_sub_split (c.tc : Thread nD τ) (win_sub (F := F)) (V₁ m c)]
  unfold R
  iintro ⟨⟨Hw, Ho⟩, HT, Hp, HO⟩
  isplitl [Hw]; · iexact Hw
  isplitl [Hp]; · iexact Hp
  isplitl [Ho]
  · isplitl [Ho]; · iexact Ho
    iempintro
  isplitl [HT] <;> iassumption

theorem reg0_post (c : Dev nD) : (reg0 m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) (winArrs (F := F)) (V₂ m c) ∗ (∃ r, prngReg c r)
    ∗ (StableHlo.held (c.tc : Thread nD τ) (others (F := F)) (V₂ m c) ∗ emp) ∗ semVal (barCell c) 0 ∗ ∃ Wd, owes (c : Thread nD τ) (0 : CellTallies nD τ sig Unit) Wd) ⊢ _
  rw [StableHlo.held_sub_split (c.tc : Thread nD τ) (win_sub (F := F)) (V₂ m c)]
  iintro ⟨Hw, -, ⟨Ho, -⟩, Hb, HO⟩
  isplitl [Hw Ho Hb]
  · isplitl [Hw Ho]
    · isplitl [Hw] <;> iassumption
    iexact Hb
  iexact HO

def segs : List (Pipeline.Seg (pcfgs (F := F)) adm (pdats m) () defs₀ 𝒱₀ L lv) := [.host (seg0 m), .region (reg0 m)]

theorem main_eq (c : Dev nD) : main (F := F) c = Pipeline.Seg.run (segs m) :=
  main_segs adm (pdats m) () 𝒱₀ L lv (seg0 m) (reg0 m) rfl c

/-! ## The launch -/

/-- The pipeline's launch element beside the protocol's. -/
def u₀ : UU :=
  (initOf (Pipeline.cells (Pipeline.pin (pcfgs (F := F)) adm) cellOf_inj) (Pipeline.launchToks (Pipeline.pin (pcfgs (F := F)) adm) cellOf_inj),
    launchOf barCells scCells toks)

/-- The protocol's launch element, kept at one device until all are together. -/
def G₀ (c : Dev nD) : sProp 𝕄 := if c = 0 then BI.own (ER (launchOf barCells scCells toks)) else iprop(emp)
theorem G_all : bigSep Finset.univ (G₀ (F := F)) = BI.own (ER (launchOf barCells scCells toks)) := by
  rw [bigSep_univ_at _ (0 : Dev nD), bigSep_congr (s := Finset.univ.erase (0 : Dev nD)) (Ψ := fun _ => (BI.emp : sProp 𝕄))
      fun c hc => by unfold G₀; rw [if_neg (Finset.ne_of_mem_erase hc)]; rfl, BI.bigSep_emp_const]
  unfold G₀; rw [if_pos rfl]
  exact BI.equiv_iff.mp sep_emp

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

/-- What a device brings from the launch beside the protocol's part. -/
def own₀ (c : Dev nD) : sProp 𝕄 :=
  iprop(StableHlo.held (c : Thread nD τ) bufs (V₀ m c) ∗ dues c ∗ (∃ r, prngReg c r) ∗ ∃ W, owes (c : Thread nD τ) (O₀ c) W)

theorem T₀_intro (κ : GSem nD τ sig → ℕ) (c : Dev nD) : iprop(records m κ ∗ (alone c ∗ own₀ m c)) ⊢ T₀ m c := by
  unfold own₀ T₀ R Tk
  iintro ⟨#HR, Ha, Hh, Hd, Hp, HO⟩
  isplitl [Hh]; · iexact Hh
  isplitl [Ha Hd]
  · isplitl [Ha]
    · iexists κ; isplitr; · iexact HR
      iexact Ha
    iexact Hd
  isplitl [Hp] <;> iassumption

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The protocol's part of the launch, dealt. -/
theorem deal : iprop((bigSep Finset.univ fun c : Dev nD => atPos ER (barCell c) 0 ∅ 0) ∗ (bigSep scCells fun g => openTok ER g)
      ∗ bigSep toks fun x => dutyTok ER x.1 x.2.1 x.2.2) ⊢ (bigSep Finset.univ fun c : Dev nD => alone c : sProp 𝕄) := by
  unfold toks alone
  rw [bigSep_union toks_disjoint, bar_tokens, dma_tokens, open_tokens,
    around (fun d => (nbE d).symm) fun d c => (dutyTok ER (barCell c) 0 d : sProp 𝕄),
    bigSep_sep' (s := Finset.univ) (Φ := fun c : Dev nD => (bigSep Finset.univ fun j => openTok ER (sendCell j c) : sProp 𝕄)),
    bigSep_sep' (s := Finset.univ) (Φ := fun c : Dev nD => (bigSep Finset.univ fun j => dutyTok ER (sendCell j c) 0 (0 : Fin 3) : sProp 𝕄)),
    around (fun j => nbE (grp j)) fun j c => (dutyTok ER (recvCell j c) 0 (0 : Fin 3) : sProp 𝕄)]
  show iprop(_ ∗ (_ ∗ _) ∗ (_ ∗ _ ∗ _)) ⊢ _
  iintro ⟨Hat, ⟨Hos, Hor⟩, Hb, Hs, Hr⟩
  iapply Smoke.bigSep_pair; isplitl [Hat]; · iexact Hat
  iapply Smoke.bigSep_pair; isplitl [Hos Hor]
  · iapply Smoke.bigSep_pair; isplitl [Hos] <;> iassumption
  iapply Smoke.bigSep_pair; isplitl [Hb]; · iexact Hb
  iapply Smoke.bigSep_pair; isplitl [Hs]; · iexact Hs
  iexact Hr

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G₀ c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G₀ c)
      ⊢ (iprop(own₀ m c ∗ semVal (barCell c) 0 ∗ G₀ c) : sProp 𝕄) := by
    rw [show unscopedBufs c (fun b => m ((c : Thread nD τ).loc b)) = StableHlo.held (c : Thread nD τ) bufs (V₀ m c) from unscopedBufs_held c (V₀ m c),
      unscopedSems_eq]
    unfold own₀
    iintro ⟨Hh, Hus, HO, Hcr, Hp, HG⟩
    ihave Hd := (dues_intro (F := F) c) $$ Hcr
    isplitl [Hh HO Hd Hp]
    · isplitl [Hh]; · iexact Hh
      isplitl [Hd]; · iexact Hd
      isplitl [Hp]; · iexists (ρ c); iexact Hp
      iexists ∅; iexact HO
    isplitl [Hus] <;> iassumption
  have hv : bigSep Finset.univ (fun c : Dev nD => (semVal (barCell c) 0 : sProp 𝕄)) = bigSep barCells (fun g => (semVal g 0 : sProp 𝕄)) :=
    (bigSep_map (s := Finset.univ) barEmb (Φ := fun g : GSem nD τ sig => (semVal g 0 : sProp 𝕄))).symm
  have hat : bigSep barCells (fun g => (atPos ER g 0 ∅ 0 : sProp 𝕄)) = bigSep Finset.univ (fun c : Dev nD => (atPos ER (barCell c) 0 ∅ 0 : sProp 𝕄)) :=
    bigSep_map (s := Finset.univ) barEmb (Φ := fun g : GSem nD τ sig => (atPos ER g 0 ∅ 0 : sProp 𝕄))
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G₀ c))
      ⊢ (bigSep Finset.univ fun c : Dev nD => iprop(own₀ m c ∗ semVal (barCell c) 0 ∗ G₀ c) : sProp 𝕄) from bigSep_mono fun c _ => hcore c) $$ H
  ihave H := Smoke.bigSep_unpair $$ H; icases H with ⟨HB, H⟩
  ihave H := Smoke.bigSep_unpair $$ H; icases H with ⟨Hv, HG⟩
  ihave Hv := (Entails.of_eq hv) $$ Hv
  ihave Hu := (Entails.of_eq (G_all (F := F))) $$ HG
  imod (Rounds.fund_launch ER (sched (xs m)) cells_disjoint (fun g _ h => h) toks) $$ [Hv Hu] with ⟨%κ, -, #Hinv, #Hr, Hat, Hopen, Htok⟩
  · isplitl [Hv] <;> iassumption
  imodintro
  ihave Hat := (Entails.of_eq hat) $$ Hat
  ihave Hal := (deal (F := F)) $$ [Hat Hopen Htok]
  · isplitl [Hat]; · iexact Hat
    isplitl [Hopen] <;> iassumption
  iapply (bigSep_with_persistent (R := records m κ) (Φ := fun c => iprop(alone c ∗ own₀ m c)) fun c _ => T₀_intro m κ c)
  isplitr
  · unfold records
    isplitr; · iexact Hinv
    iexact Hr
  iapply Smoke.bigSep_pair
  isplitl [Hal] <;> iassumption

theorem unscoped_eq : ∀ sm : SemLoc sig, sm.isScoped .tc = false → sm = .reg barS := by decide

theorem bufs_eq (c : Dev nD) (W : Valuation τ sig (Elt F)) : (StableHlo.held (c : Thread nD τ) bufs W : sProp 𝕄)
    ⊢ iprop(((c : Thread nD τ).loc main_arg0 ↦{fullShare} W (Proc.devRef .tc main_arg0)) ∗ ((c : Thread nD τ).loc main_arg1 ↦{fullShare} W (Proc.devRef .tc main_arg1))
      ∗ ((c : Thread nD τ).loc main_arg2 ↦{fullShare} W (Proc.devRef .tc main_arg2)) ∗ ((c : Thread nD τ).loc main_arg3 ↦{fullShare} W (Proc.devRef .tc main_arg3))
      ∗ ((c : Thread nD τ).loc main_v3 ↦{fullShare} W (Proc.devRef .tc main_v3))) := by
  unfold StableHlo.held
  refine (bigSep_subset (t := {Proc.devRef .tc main_arg0, Proc.devRef .tc main_arg1, Proc.devRef .tc main_arg2, Proc.devRef .tc main_arg3, Proc.devRef .tc main_v3})
    (by decide)).trans ?_
  rw [bigSep_eq_bigSepL_of_eq [Proc.devRef .tc main_arg0, Proc.devRef .tc main_arg1, Proc.devRef .tc main_arg2, Proc.devRef .tc main_arg3, Proc.devRef .tc main_v3] (by decide) (by decide)]
  exact BI.Entails.refl _

/-- What holds at the end on one device. -/
abbrev Done (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3))
  ∧ s.mem ((c.tc : Thread nD τ).loc main_v3) = res m c

set_option backward.isDefEq.respectTransparency.types false in
/-- Every weakly fair execution of the program on the eight devices terminates, with the arguments unchanged, the result
    on every device, and every semaphore counter at zero. -/
theorem run_main : θ_run defs (onTc (τ := τ) (main (F := F))) (s₀ m ρ)
    (fun r => (∀ c : Dev nD, Done m c r.2) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G₀) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg0_pre m c, fun c => reg0_post m c⟩)
    (hinit := init m ρ)
    (QY := fun c s => Done m c s ∧ s.sem (barCell c) = 0)
    (hfin := fun c s' => by
      dsimp only [Tₙ]
      iintro ⟨⟨Hh, Hb0⟩, HSI⟩
      ihave Hh := (bufs_eq c _) $$ Hh
      icases Hh with ⟨H0, H1, H2, H3, H4⟩
      icombine HSI H0 gives %h0
      icombine HSI H1 gives %h1
      icombine HSI H2 gives %h2
      icombine HSI H3 gives %h3
      icombine HSI H4 gives %h4
      icombine HSI Hb0 gives %hb
      imodintro
      isplitr
      · ipureintro
        refine ⟨⟨⟨?_, ?_, ?_, ?_⟩, ?_⟩, by simpa using hb⟩
        · exact (Buf.eq_of_forall_mem_univ h0).trans ((V₂_ne m c (by decide)).trans (V_main_arg0 m c))
        · exact (Buf.eq_of_forall_mem_univ h1).trans ((V₂_ne m c (by decide)).trans (V_main_arg1 m c))
        · exact (Buf.eq_of_forall_mem_univ h2).trans ((V₂_ne m c (by decide)).trans (V_main_arg2 m c))
        · exact (Buf.eq_of_forall_mem_univ h3).trans ((V₂_ne m c (by decide)).trans (V_main_arg3 m c))
        · exact (Buf.eq_of_forall_mem_univ h4).trans (V₂_res m c)
      iexact HSI)
    (hQ := fun s h hs => ⟨fun c => (h c).1, sem_eq_zero hs fun c sm hsm => by
        obtain rfl := unscoped_eq sm hsm
        exact (h c).2⟩)

end Cert.KernelIdeal.Gather
-- ==== Proof.ReferenceIdeal.Whole.lean ====
/- What the reference leaves in its result. -/
module

public import proofs.«01_k».proof.Proof.Gen.ReferenceIdeal.Value
public import Idealize.ShloMosaic.Lib.VecWindow
public import Idealize.ShloMosaic.Lib.Pipeline.ValueKit.Geometry

@[expose] public section

set_option maxRecDepth 65536

noncomputable section

namespace Cert.ReferenceIdeal.Plain

open Cert.ReferenceIdeal Cert.ReferenceIdeal.Gen
open Idealize.ShloMosaic Idealize.ShloMosaic.TcCoe Idealize.ShloMosaic.Tactic Idealize.SL.Sem
open Idealize.ShloMosaic.Pipeline (Dat Cfg Window)

variable {F : FTy → Type} [FloatOps F]
variable (m : (ℓ : Loc nD τ sig) → Buf (Elt F) ℓ) (ρ : Dev nD → PrngReg)

/-- The one entry of a one-entry array. -/
abbrev first1 (f : Vec F S1 .f32) : Elt F .f32 := f (Shape.Idx.first (numel1_S1.symm ▸ Nat.one_pos))

theorem out_eq (c : Dev nD) (arg0 : Memref sig .tc .vmem S4096x4096 .fp8e4m3) (harg0 : arg0.IsWhole) (arg1 : Memref sig .tc .vmem S4096x8192 .fp8e4m3) (harg1 : arg1.IsWhole)
    (arg2 : Memref sig .tc .smem S1 .f32) (harg2 : arg2.IsWhole) (arg3 : Memref sig .tc .smem S1 .f32) (harg3 : arg3.IsWhole) (arg4 : Memref sig .tc .vmem S4096x8192 .f32) (harg4 : arg4.IsWhole)
    (x0 : Vec F S4096x4096 .fp8e4m3) (x1 : Vec F S4096x8192 .fp8e4m3) (x2 : Vec F S1 .f32) (x3 : Vec F S1 .f32) :
    out0_A_4 c arg0 harg0 arg1 harg1 arg2 harg2 arg3 harg3 arg4 harg4 x0 x1 x2 x3 = k0_pay1 x0 x1 (first1 x2) (first1 x3) := by
  unfold out0_A_4 kernelRun0_A
  dsimp only
  refine (View.read_writes_full (s := S4096x8192) _ _ inb_S4096x8192_S4096x8192_0_0 _ []).trans ?_
  have h0 := (View.readAt_full (Val := Elt F) (s := S4096x4096) arg0.view (harg0.unread x0) inb_S4096x4096_S4096x4096_0_0).trans (harg0.read_unread x0)
  have h1 := (View.readAt_full (Val := Elt F) (s := S4096x8192) arg1.view (harg1.unread x1) inb_S4096x8192_S4096x8192_0_0).trans (harg1.read_unread x1)
  refine congr (congr (congr (congrArg k0_pay1 h0) h1) ?_) ?_
  · unfold kernelRun0_A.sl.r
    rw [View.readAt_full (Val := Elt F) (s := S1) arg2.view (harg2.unread x2) inb_S1_S1_0, harg2.read_unread]
  · unfold kernelRun0_A.sl.r_1
    rw [View.readAt_full (Val := Elt F) (s := S1) arg3.view (harg3.unread x3) inb_S1_S1_0, harg3.read_unread]

/-- The one point of the grid. -/
abbrev pt0 : Fin cfg0.N := ⟨0, by decide⟩
theorem pt0_eq (t : Fin cfg0.N) : t = pt0 := Fin.ext (by have h : t.1 < 1 := t.2; show t.1 = 0; omega)

theorem at0 (i : S4096x4096.Idx) : ((cfg0.win 0).blk pt0).view.emb i = i := by
  funext a; apply Fin.ext
  show 0 * S4096x4096.size a + 1 * (i a).1 = (i a).1
  omega
theorem at1 (i : S4096x8192.Idx) : ((cfg0.win 1).blk pt0).view.emb i = i := by
  funext a; apply Fin.ext
  show 0 * S4096x8192.size a + 1 * (i a).1 = (i a).1
  omega
theorem at2 (i : S1.Idx) : ((cfg0.win 2).blk pt0).view.emb i = i := by
  funext a; apply Fin.ext
  show 0 * S1.size a + 1 * (i a).1 = (i a).1
  omega
theorem at3 (i : S1.Idx) : ((cfg0.win 3).blk pt0).view.emb i = i := by
  funext a; apply Fin.ext
  show 0 * S1.size a + 1 * (i a).1 = (i a).1
  omega
theorem at4 (i : S4096x8192.Idx) : ((cfg0.win 4).blk pt0).view.emb i = i := by
  funext a; apply Fin.ext
  show 0 * S4096x8192.size a + 1 * (i a).1 = (i a).1
  omega

theorem in0 (c : Dev nD) : iblk m c 0 pt0 = m ((c : Thread nD τ).loc main_arg0) := by
  funext i
  show m ((c : Thread nD τ).loc main_arg0) (((cfg0.win 0).blk pt0).view.emb i) = _
  rw [at0]
theorem in1 (c : Dev nD) : iblk m c 1 pt0 = m ((c : Thread nD τ).loc main_arg1) := by
  funext i
  show m ((c : Thread nD τ).loc main_arg1) (((cfg0.win 1).blk pt0).view.emb i) = _
  rw [at1]
theorem in2 (c : Dev nD) : iblk m c 2 pt0 = m ((c : Thread nD τ).loc main_arg2) := by
  funext i
  show m ((c : Thread nD τ).loc main_arg2) (((cfg0.win 2).blk pt0).view.emb i) = _
  rw [at2]
theorem in3 (c : Dev nD) : iblk m c 3 pt0 = m ((c : Thread nD τ).loc main_arg3) := by
  funext i
  show m ((c : Thread nD τ).loc main_arg3) (((cfg0.win 3).blk pt0).view.emb i) = _
  rw [at3]

/-- The reference's result, one function of the arguments. -/
def whole (c : Dev nD) : S4096x8192.Idx → Elt F .f32 :=
  k0_pay1 (m ((c : Thread nD τ).loc main_arg0)) (m ((c : Thread nD τ).loc main_arg1))
    (first1 (m ((c : Thread nD τ).loc main_arg2))) (first1 (m ((c : Thread nD τ).loc main_arg3)))

theorem last (c : Dev nD) : outsAt0 m c pt0 = whole m c := by
  unfold outsAt0
  rw [out_eq, in0, in1, in2, in3]; rfl

theorem final (c : Dev nD) : (dats m 0 c).arrAt 4 cfg0.N = whole m c :=
  (dats m 0 c).arrAt_eq_of_cover 4 (whole m c)
    (fun t _ => by
      obtain rfl : t = pt0 := pt0_eq t
      funext i
      show (dats m 0 c).after 4 pt0 i = whole m c (((cfg0.win 4).blk pt0).view.emb i)
      rw [after0_4, at4, last])
    (fun i => ⟨pt0, by decide, by
      have h := View.emb_mem_set ((cfg0.win 4).blk pt0).view i
      rw [at4] at h; exact h⟩)

/-- The reference runs, with its result named and its arguments unchanged. -/
theorem run : θ_run defs (onTc (τ := τ) (main (F := F))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.ReferenceIdeal.Plain
-- ==== Proof.Value.lean ====
/- The gathered product, scaled and passed through SiLU, against the reference's whole product. -/
module

public import proofs.«01_k».proof.Proof.KernelIdeal.Run
public import proofs.«01_k».proof.Proof.ReferenceIdeal.Whole
public import Idealize.ShloMosaic.Lib.MatmulPlain
public import Idealize.ShloMosaic.Lib.Layout
public import Idealize.ShloMosaic.PureOps.Ideal
public import Idealize.ShloMosaic.Lib.IdealHost

@[expose] public section

set_option maxRecDepth 65536

noncomputable section

namespace Cert.Silu

open Idealize.ShloMosaic Idealize.ShloMosaic.TcCoe Idealize.ShloMosaic.ValueIdx
open scoped BigOperators

/-- The denominator of the logistic function is not zero. -/
theorem denom_ne (y : EReal) : 1 + Ideal.exp y ≠ 0 := by
  induction y using EReal.rec with
  | bot => rw [Ideal.exp_bot, add_zero]; exact one_ne_zero
  | top => rw [Ideal.exp_top, EReal.add_top_of_ne_bot (show (1 : EReal) ≠ ⊥ from EReal.coe_ne_bot 1)]; exact EReal.top_ne_zero
  | coe r =>
    rw [Ideal.exp_coe, ← EReal.coe_one, ← EReal.coe_add]
    have : (0 : ℝ) < 1 + Real.exp r := by positivity
    exact_mod_cast this.ne'

/-- The kernel's `y · logistic y` is the reference's `y / (1 + exp (0 - y))`, at every extended real. -/
theorem silu (y : EReal) : y * Ideal.logistic y = Ideal.div y (1 + Ideal.exp (0 - y)) := by
  have h := denom_ne (-y)
  rw [zero_sub, Ideal.logistic, Ideal.div, Ideal.div, if_neg h, if_neg h, one_mul]

/-- The constant zero, and the constant one. -/
abbrev z0 : EReal := Ideal.ofBits .f32 0x00000000#32
abbrev o1 : EReal := Ideal.ofBits .f32 0x3F800000#32
theorem z0_eq : z0 = 0 := Ideal.ofBits_zero_f32
theorem o1_eq : o1 = 1 := Ideal.ofBits_one_f32

/-- A block's products, scaled and passed through SiLU, at one entry. -/
theorem kern_apply (s : EReal) (x : FVec Ideal ⟨2, ![512, 4096]⟩ .fp8e4m3) (w : FVec Ideal ⟨2, ![4096, 1024]⟩ .fp8e4m3) (r : Fin 512) (n : Fin 1024) :
    Cert.KernelIdeal.Gen.k0_pay4 (F := Ideal) s x w (ix2 r n)
      = ((z0 + ∑ k : Fin 4096, x (ix2 r k) * w (ix2 k n)) * s) * Ideal.logistic ((z0 + ∑ k : Fin 4096, x (ix2 r k) * w (ix2 k n)) * s) := by
  have e := Ideal.matmul_plain_apply (M := 512) (K := 4096) (N := 1024) none x w (fun _ => z0) r n
  rw [← e]; rfl

/-- The reference's result at one entry. -/
theorem ref_apply (s t : EReal) (x : FVec Ideal ⟨2, ![4096, 4096]⟩ .fp8e4m3) (w : FVec Ideal ⟨2, ![4096, 8192]⟩ .fp8e4m3) (r : Fin 4096) (n : Fin 8192) :
    Cert.ReferenceIdeal.Gen.k0_pay1 (F := Ideal) x w s t (ix2 r n)
      = Ideal.div ((z0 + ∑ k : Fin 4096, x (ix2 r k) * w (ix2 k n)) * (s * t)) (o1 + Ideal.exp (z0 - ((z0 + ∑ k : Fin 4096, x (ix2 r k) * w (ix2 k n)) * (s * t)))) := by
  have e := Ideal.matmul_plain_apply (M := 4096) (K := 4096) (N := 8192) none x w (fun _ => z0) r n
  rw [← e]; rfl

/-- The two agree where the rows and the columns do. -/
theorem agree (a b : EReal) (x : FVec Ideal ⟨2, ![512, 4096]⟩ .fp8e4m3) (w : FVec Ideal ⟨2, ![4096, 1024]⟩ .fp8e4m3)
    (X : FVec Ideal ⟨2, ![4096, 4096]⟩ .fp8e4m3) (W : FVec Ideal ⟨2, ![4096, 8192]⟩ .fp8e4m3) (r : Fin 512) (n : Fin 1024) (R : Fin 4096) (N : Fin 8192)
    (hx : ∀ k, x (ix2 r k) = X (ix2 R k)) (hw : ∀ k, w (ix2 k n) = W (ix2 k N)) :
    Cert.KernelIdeal.Gen.k0_pay4 (F := Ideal) (a * b) x w (ix2 r n) = Cert.ReferenceIdeal.Gen.k0_pay1 (F := Ideal) X W a b (ix2 R N) := by
  rw [kern_apply, ref_apply, Finset.sum_congr rfl fun k _ => congrArg₂ (· * ·) (hx k) (hw k), silu, z0_eq, o1_eq]

/-! ## The scale -/

section Scale
open Cert.KernelIdeal Cert.KernelIdeal.Gen Cert.KernelIdeal.Gather
variable (m : (ℓ : Loc nD τ sig) → Buf (Elt Ideal) ℓ)

theorem one_entry (i j : S1.Idx) : i = j := by
  funext a
  have h (k : S1.Idx) : (k a).1 = 0 := by
    have := (k a).2
    match a with
    | ⟨0, _⟩ => exact Nat.lt_one_iff.mp this
  exact Fin.ext ((h i).trans (h j).symm)

abbrev sx (c : Dev nD) : FVec Ideal S1 .f32 := m ((c : Thread nD τ).loc main_arg2)
abbrev sw (c : Dev nD) : FVec Ideal S1 .f32 := m ((c : Thread nD τ).loc main_arg3)

theorem host_scale (c : Dev nD) : V m c main_v2 = (shapeCast S1x1 (mulf (sx m c) (sw m c)) shapeCasts_S1_S1x1 : Vec Ideal S1x1 .f32) := by
  show StableHlo.after hostOps0 (fun b => m (c, b)) (Proc.devRef .tc main_v2) = _
  rw [StableHlo.after_cons, StableHlo.after_cons, StableHlo.after_nil, StableHlo.reshape_result, StableHlo.binary_result]
  rfl

/-- The scale a device reads is the product of the two scales. -/
theorem scale_eq (c : Dev nD) (j : S1.Idx) : (scal (sv m c) : EReal) = ((sx m c j : EReal) * (sw m c j : EReal)) := by
  rw [sv_eq, host_scale]
  show (mulf (sx m c) (sw m c)) (Shape.reshapeEquiv _ _) = _
  rw [one_entry (Shape.reshapeEquiv _ _) j]; rfl

end Scale

/-! ## The result -/

section Result
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Each device's arguments are its parts of the reference's. -/
abbrev Parts : Prop := ∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)

theorem result (h : Parts m m') (c : Dev Cert.KernelIdeal.nD) :
    Cert.KernelIdeal.Gather.res m c = Layout.block ⟨2, ![4096, 1024]⟩ ⟨2, ![4096, 8192]⟩ 1 8 c (Cert.ReferenceIdeal.Plain.whole m' 0) := by
  funext i
  obtain ⟨r, n, rfl⟩ : ∃ (r : Fin 4096) (n : Fin 1024), i = ix2 r n := ⟨i 0, i 1, eq_ix2 i⟩
  have hr := r.2
  have hn := n.2
  have hc : c.1 < 8 := c.2
  let o : Dev Cert.KernelIdeal.nD := ⟨r.1 / 512, by show r.1 / 512 < 8; omega⟩
  let N : Fin 8192 := ⟨c.1 * 1024 + n.1, by omega⟩
  have hJ : ∀ R : Fin 4096, (show Layout.Tiles ⟨2, ![4096, 1024]⟩ ⟨2, ![4096, 8192]⟩ 1 8 by decide).idx c (ix2 R n) = ix2 R N := by
    intro R; funext a; apply Fin.ext
    match a with
    | ⟨0, _⟩ => rfl
    | ⟨1, _⟩ => rfl
  rw [Layout.block_apply, hJ]
  let e : (⟨1, ![1]⟩ : Shape).Idx := Shape.Idx.first (Cert.ReferenceIdeal.Gen.facts.numel1_S1.symm ▸ Nat.one_pos)
  have hs := scale_eq m c e
  show Cert.KernelIdeal.Gen.k0_pay4 (F := Ideal) (Cert.KernelIdeal.Gather.scal (Cert.KernelIdeal.Gather.sv m c))
      (Cert.KernelIdeal.Gen.k0_pay1 (Cert.KernelIdeal.Gather.xs m o)) (Cert.KernelIdeal.Gather.w8 (Cert.KernelIdeal.Gather.wv m c)) _ = _
  rw [hs, show sx m c = _ from (h c).2.2.1, show sw m c = _ from (h c).2.2.2]
  have hi : Cert.KernelIdeal.Gather.ix (r.1 % 512) n.1 (Nat.mod_lt _ (by decide)) n.2 = ix2 (⟨r.1 % 512, Nat.mod_lt _ (by decide)⟩ : Fin 512) n := by
    funext a
    match a with
    | ⟨0, _⟩ => rfl
    | ⟨1, _⟩ => rfl
  refine (congrArg _ hi).trans (agree _ _ _ _ _ _ _ _ r N ?_ ?_)
  · intro k
    show shapeCast _ (shapeCast _ (Cert.KernelIdeal.Gather.xs m o) _) _ _ = _
    rw [shapeCast_self, shapeCast_self, Cert.KernelIdeal.Gather.xs_eq, Cert.KernelIdeal.Gen.V_main_arg0, (h o).1, Layout.block_apply]
    refine congrArg _ ?_
    funext a; apply Fin.ext
    match a with
    | ⟨0, _⟩ => show r.1 / 512 * 512 + r.1 % 512 = r.1; omega
    | ⟨1, _⟩ => rfl
  · intro k
    show shapeCast _ (shapeCast _ (Cert.KernelIdeal.Gather.wv m c) _) _ _ = _
    rw [shapeCast_self, shapeCast_self, Cert.KernelIdeal.Gather.wv_eq, Cert.KernelIdeal.Gen.V_main_arg1, (h c).2.1, Layout.block_apply, hJ]

end Result

end Cert.Silu
-- ==== Proof.lean ====
/- The five claims, put together: the kernel's run gives its frame and its result, the reference's run gives the same
   function, and `Cert.Silu.result` equates the two. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Run
public import proofs.«01_k».proof.Proof.KernelIdeal.Run
public import proofs.«01_k».proof.Proof.ReferenceIdeal.Whole
public import proofs.«01_k».proof.Proof.Value
public import Idealize.ShloMosaic.Adequacy
public import Idealize.ShloMosaic.Init

@[expose] public section

noncomputable section

namespace Cert.Proof

open Idealize.ShloMosaic Idealize.SL.Sem Cert.Kernel

/-- Kernel and reference terminate without fault, leave their arguments as they were and every counter at zero, and over
the extended reals device `c` ends with its columns of the reference's result. -/
theorem claim : Cert.Claim := ⟨Cert.Kernel.Gen.facts, Cert.KernelIdeal.Gen.facts, Cert.ReferenceIdeal.Gen.facts,
  fun m g _ => (θ_run Cert.Kernel.defs _ _).mono (fun r h => ⟨fun c => (h.1 c).1, h.2⟩) (Cert.Kernel.Gather.run_main m g),
  fun m g _ => (θ_run Cert.KernelIdeal.defs _ _).mono (fun r h => ⟨fun c => (h.1 c).1, h.2⟩) (Cert.KernelIdeal.Gather.run_main m g),
  fun m g _ => Cert.ReferenceIdeal.Gen.frame m g,
  trivial,
  fun m g m' g' _ h => ⟨Cert.ReferenceIdeal.Plain.whole m' 0,
    (θ_run Cert.KernelIdeal.defs _ _).mono (fun r hr c => ⟨(hr.1 c).2.trans (Cert.Silu.result m m' h c), (hr.1 c).1⟩) (Cert.KernelIdeal.Gather.run_main m g),
    (θ_run Cert.ReferenceIdeal.defs _ _).mono (fun r hr => hr 0) (Cert.ReferenceIdeal.Plain.run m' g')⟩⟩

end Cert.Proof

end
